-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite_pre_labels_in_range [hPre_finite_pre_labels_in_range : Cert.Pre_finite_pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pre_labels_in_range [hPre_finite_pre_labels_in_range : Cert.Pre_finite_pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_pre_labels_in_range [hKernelIdeal : Cert.KernelIdeal.Facts] [hPre_finite_pre_labels_in_range : Cert.Pre_finite_pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pre_labels_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_pre_labels_in_range [hReferenceIdeal : Cert.ReferenceIdeal.Facts] [hPre_finite_pre_labels_in_range : Cert.Pre_finite_pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pre_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_pre_labels_in_range [hKernelIdeal : Cert.KernelIdeal.Facts] [hReferenceIdeal : Cert.ReferenceIdeal.Facts] [hPre_finite_pre_labels_in_range : Cert.Pre_finite_pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pre_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_finite_pre_labels_in_range : Cert.Pre_finite_pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_finite_pre_labels_in_range (hKernelIdeal := hKernelIdeal) (hPre_finite_pre_labels_in_range := hPre_finite_pre_labels_in_range)
    ∧ quiescent_ReferenceIdeal (hReferenceIdeal := hReferenceIdeal)
    ∧ quiescent_ReferenceIdeal_pre_finite_pre_labels_in_range (hReferenceIdeal := hReferenceIdeal) (hPre_finite_pre_labels_in_range := hPre_finite_pre_labels_in_range)
    ∧ preserves_Kernel_KernelIdeal
    ∧ algebraic_KernelIdeal_ReferenceIdeal_pre_finite_pre_labels_in_range (hKernelIdeal := hKernelIdeal) (hReferenceIdeal := hReferenceIdeal) (hPre_finite_pre_labels_in_range := hPre_finite_pre_labels_in_range)
-- ==== Pre_finite_pre_labels_in_range.lean ====
abbrev S32x32x100000 : Shape := ⟨3, ![32, 32, 100000]⟩
abbrev S32x32 : Shape := ⟨2, ![32, 32]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S32x32x100000 : S_.BroadcastsInDim S32x32x100000 (![] : Fin 0 → Fin S32x32x100000.rank)
  reducesTo_S32x32x100000_S_d0_1_2 : S32x32x100000.ReducesTo [0, 1, 2] S_

variable [Facts]

def fn {F : FTy → Type} [FloatOps F] (main_arg0 : FVec F S32x32x100000 .f32) (main_arg1 : IVec S32x32 32) (main_arg2 : FVec F S32x32 .f32) : IVec S_ 1 :=
  let main_c : IVec S_ 32 := constantI S_ 32 0#32
  let main_v0 : IVec S32x32 32 := broadcastInDim S32x32 ![] bcast_S_S32x32 main_c
  let main_v1 : IVec S32x32 1 := cmpi .sge main_arg1 main_v0
  let main_c_0 : IVec S_ 32 := constantI S_ 32 100000#32
  let main_v2 : IVec S32x32 32 := broadcastInDim S32x32 ![] bcast_S_S32x32 main_c_0
  let main_v3 : IVec S32x32 1 := cmpi .slt main_arg1 main_v2
  let main_v4 : IVec S32x32 1 := andi main_v1 main_v3
  let main_c_1 : IVec S_ 1 := constantI S_ 1 1#1
  let main_v5 : IVec S_ 1 := (fun x v => Host.reduce IntOp.andi x v reducesTo_S32x32_S_d0_1 h_S_) main_v4 main_c_1
  let main_v6 : FVec F S32x32x100000 .f32 := Host.absf main_arg0
  let main_cst : FVec F S_ .f32 := constant S_ .f32 0x7F800000#32
  let main_v7 : FVec F S32x32x100000 .f32 := broadcastInDim S32x32x100000 ![] bcast_S_S32x32x100000 main_cst
  let main_v8 : IVec S32x32x100000 1 := cmpf .olt main_v6 main_v7
  let main_c_2 : IVec S_ 1 := constantI S_ 1 1#1
  let main_v9 : IVec S_ 1 := (fun x v => Host.reduce IntOp.andi x v reducesTo_S32x32x100000_S_d0_1_2 h_S_) main_v8 main_c_2
  let main_v10 : IVec S_ 1 := andi main_v5 main_v9
  main_v10
-- ==== Pre_labels_in_range.lean ====
abbrev S32x32x100000 : Shape := ⟨3, ![32, 32, 100000]⟩
abbrev S32x32 : Shape := ⟨2, ![32, 32]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel

variable [Facts]

def fn {F : FTy → Type} [FloatOps F] (main_arg0 : FVec F S32x32x100000 .f32) (main_arg1 : IVec S32x32 32) (main_arg2 : FVec F S32x32 .f32) : IVec S_ 1 :=
  let main_c : IVec S_ 32 := constantI S_ 32 0#32
  let main_v0 : IVec S32x32 32 := broadcastInDim S32x32 ![] bcast_S_S32x32 main_c
  let main_v1 : IVec S32x32 1 := cmpi .sge main_arg1 main_v0
  let main_c_0 : IVec S_ 32 := constantI S_ 32 100000#32
  let main_v2 : IVec S32x32 32 := broadcastInDim S32x32 ![] bcast_S_S32x32 main_c_0
  let main_v3 : IVec S32x32 1 := cmpi .slt main_arg1 main_v2
  let main_v4 : IVec S32x32 1 := andi main_v1 main_v3
  let main_c_1 : IVec S_ 1 := constantI S_ 1 1#1
  let main_v5 : IVec S_ 1 := (fun x v => Host.reduce IntOp.andi x v reducesTo_S32x32_S_d0_1 h_S_) main_v4 main_c_1
  main_v5
-- ==== Kernel.lean ====
abbrev S32x32x100000 : Shape := ⟨3, ![32, 32, 100000]⟩
abbrev S32x32 : Shape := ⟨2, ![32, 32]⟩
abbrev S128x8x100000 : Shape := ⟨3, ![128, 8, 100000]⟩
abbrev S1024 : Shape := ⟨1, ![1024]⟩
abbrev S32 : Shape := ⟨1, ![32]⟩
abbrev S32x8x128 : Shape := ⟨3, ![32, 8, 128]⟩
abbrev S_ : Shape := ⟨0, ![]⟩
abbrev S16 : Shape := ⟨1, ![16]⟩
abbrev S1 : Shape := ⟨1, ![1]⟩
abbrev S1x8x16 : Shape := ⟨3, ![1, 8, 16]⟩
abbrev S8x16 : Shape := ⟨2, ![8, 16]⟩
abbrev S8x128 : Shape := ⟨2, ![8, 128]⟩
abbrev S1x1 : Shape := ⟨2, ![1, 1]⟩
abbrev S1x8x128 : Shape := ⟨3, ![1, 8, 128]⟩
abbrev S1x1x1 : Shape := ⟨3, ![1, 1, 1]⟩

abbrev nBuf : Table → Nat
  | .hbm => 10
  | .local .tc .vmem => 3
  | .local .scVector .vmem => 3
  | _ => 0

abbrev bufTy : (tb : Table) → Fin (nBuf tb) → BufTy
  | .hbm, ⟨0, _⟩ => ⟨S32x32x100000, .f32⟩
  | .hbm, ⟨1, _⟩ => ⟨S32x32, .i32⟩
  | .hbm, ⟨2, _⟩ => ⟨S32x32, .f32⟩
  | .hbm, ⟨3, _⟩ => ⟨S128x8x100000, .f32⟩
  | .hbm, ⟨4, _⟩ => ⟨S1024, .i32⟩
  | .hbm, ⟨5, _⟩ => ⟨S1024, .f32⟩
  | .hbm, ⟨6, _⟩ => ⟨S8x128, .f32⟩
  | .hbm, ⟨7, _⟩ => ⟨S8x128, .f32⟩
  | .hbm, ⟨8, _⟩ => ⟨S1x1, .f32⟩
  | .hbm, ⟨9, _⟩ => ⟨S_, .f32⟩
  | .local .tc .vmem, ⟨0, _⟩ => ⟨S8x128, .f32⟩
  | .local .tc .vmem, ⟨1, _⟩ => ⟨S8x128, .f32⟩
  | .local .tc .vmem, ⟨2, _⟩ => ⟨S1x1, .f32⟩
  | .local .scVector .vmem, ⟨0, _⟩ => ⟨S32, .i32⟩
  | .local .scVector .vmem, ⟨1, _⟩ => ⟨S32x8x128, .f32⟩
  | .local .scVector .vmem, ⟨2, _⟩ => ⟨S32, .f32⟩
  | _, _ => ⟨S32x32x100000, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_mult1 (v6 : BitVec 32) : BitVec 32 :=
  let c_m16_i32 : BitVec 32 := 4294967280#32
  let v7 : BitVec 32 := Scalar.andi v6 c_m16_i32
  v7

def k0_off2 (i : grid0.Coords) (v6 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v9 : BitVec 32 := Scalar.shrsi v2 c3_i32
  let c0_i32 : BitVec 32 := 0#32
  let v10 : BitVec 32 := Scalar.addi v9 c0_i32
  let c0_i32_3 : BitVec 32 := 0#32
  let c_m16_i32 : BitVec 32 := 4294967280#32
  let v7 : BitVec 32 := Scalar.andi v6 c_m16_i32
  let v8 : BitVec 32 := v7
  ![v10.toNat, 0, v8.toNat]
def k0_mult2 (v20 : BitVec 32) : BitVec 32 :=
  let c_m16_i32_7 : BitVec 32 := 4294967280#32
  let v21 : BitVec 32 := Scalar.andi v20 c_m16_i32_7
  v21

def k0_off3 (i : grid0.Coords) (v20 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_8 : BitVec 32 := 3#32
  let v23 : BitVec 32 := Scalar.shrsi v2 c3_i32_8
  let c0_i32_9 : BitVec 32 := 0#32
  let v24 : BitVec 32 := Scalar.addi v23 c0_i32_9
  let c0_i32_12 : BitVec 32 := 0#32
  let c_m16_i32_7 : BitVec 32 := 4294967280#32
  let v21 : BitVec 32 := Scalar.andi v20 c_m16_i32_7
  let v22 : BitVec 32 := v21
  ![v24.toNat, 0, v22.toNat]
def k0_mult3 (v34 : BitVec 32) : BitVec 32 :=
  let c_m16_i32_16 : BitVec 32 := 4294967280#32
  let v35 : BitVec 32 := Scalar.andi v34 c_m16_i32_16
  v35

def k0_off4 (i : grid0.Coords) (v34 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_17 : BitVec 32 := 3#32
  let v37 : BitVec 32 := Scalar.shrsi v2 c3_i32_17
  let c0_i32_18 : BitVec 32 := 0#32
  let v38 : BitVec 32 := Scalar.addi v37 c0_i32_18
  let c0_i32_22 : BitVec 32 := 0#32
  let c_m16_i32_16 : BitVec 32 := 4294967280#32
  let v35 : BitVec 32 := Scalar.andi v34 c_m16_i32_16
  let v36 : BitVec 32 := v35
  ![v38.toNat, 0, v36.toNat]
def k0_mult4 (v48 : BitVec 32) : BitVec 32 :=
  let c_m16_i32_26 : BitVec 32 := 4294967280#32
  let v49 : BitVec 32 := Scalar.andi v48 c_m16_i32_26
  v49

def k0_off5 (i : grid0.Coords) (v48 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_27 : BitVec 32 := 3#32
  let v51 : BitVec 32 := Scalar.shrsi v2 c3_i32_27
  let c0_i32_28 : BitVec 32 := 0#32
  let v52 : BitVec 32 := Scalar.addi v51 c0_i32_28
  let c0_i32_32 : BitVec 32 := 0#32
  let c_m16_i32_26 : BitVec 32 := 4294967280#32
  let v49 : BitVec 32 := Scalar.andi v48 c_m16_i32_26
  let v50 : BitVec 32 := v49
  ![v52.toNat, 0, v50.toNat]
def k0_mult5 (v62 : BitVec 32) : BitVec 32 :=
  let c_m16_i32_36 : BitVec 32 := 4294967280#32
  let v63 : BitVec 32 := Scalar.andi v62 c_m16_i32_36
  v63

def k0_off6 (i : grid0.Coords) (v62 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_37 : BitVec 32 := 3#32
  let v65 : BitVec 32 := Scalar.shrsi v2 c3_i32_37
  let c0_i32_38 : BitVec 32 := 0#32
  let v66 : BitVec 32 := Scalar.addi v65 c0_i32_38
  let c0_i32_41 : BitVec 32 := 0#32
  let c_m16_i32_36 : BitVec 32 := 4294967280#32
  let v63 : BitVec 32 := Scalar.andi v62 c_m16_i32_36
  let v64 : BitVec 32 := v63
  ![v66.toNat, 0, v64.toNat]
def k0_mult6 (v76 : BitVec 32) : BitVec 32 :=
  let c_m16_i32_45 : BitVec 32 := 4294967280#32
  let v77 : BitVec 32 := Scalar.andi v76 c_m16_i32_45
  v77

def k0_off7 (i : grid0.Coords) (v76 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_46 : BitVec 32 := 3#32
  let v79 : BitVec 32 := Scalar.shrsi v2 c3_i32_46
  let c0_i32_47 : BitVec 32 := 0#32
  let v80 : BitVec 32 := Scalar.addi v79 c0_i32_47
  let c0_i32_50 : BitVec 32 := 0#32
  let c_m16_i32_45 : BitVec 32 := 4294967280#32
  let v77 : BitVec 32 := Scalar.andi v76 c_m16_i32_45
  let v78 : BitVec 32 := v77
  ![v80.toNat, 0, v78.toNat]
def k0_mult7 (v90 : BitVec 32) : BitVec 32 :=
  let c_m16_i32_54 : BitVec 32 := 4294967280#32
  let v91 : BitVec 32 := Scalar.andi v90 c_m16_i32_54
  v91

def k0_off8 (i : grid0.Coords) (v90 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_55 : BitVec 32 := 3#32
  let v93 : BitVec 32 := Scalar.shrsi v2 c3_i32_55
  let c0_i32_56 : BitVec 32 := 0#32
  let v94 : BitVec 32 := Scalar.addi v93 c0_i32_56
  let c0_i32_59 : BitVec 32 := 0#32
  let c_m16_i32_54 : BitVec 32 := 4294967280#32
  let v91 : BitVec 32 := Scalar.andi v90 c_m16_i32_54
  let v92 : BitVec 32 := v91
  ![v94.toNat, 0, v92.toNat]
def k0_mult8 (v104 : BitVec 32) : BitVec 32 :=
  let c_m16_i32_63 : BitVec 32 := 4294967280#32
  let v105 : BitVec 32 := Scalar.andi v104 c_m16_i32_63
  v105

def k0_off9 (i : grid0.Coords) (v104 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_64 : BitVec 32 := 3#32
  let v107 : BitVec 32 := Scalar.shrsi v2 c3_i32_64
  let c0_i32_65 : BitVec 32 := 0#32
  let v108 : BitVec 32 := Scalar.addi v107 c0_i32_65
  let c0_i32_68 : BitVec 32 := 0#32
  let c_m16_i32_63 : BitVec 32 := 4294967280#32
  let v105 : BitVec 32 := Scalar.andi v104 c_m16_i32_63
  let v106 : BitVec 32 := v105
  ![v108.toNat, 0, v106.toNat]
def k0_mult9 (v118 : BitVec 32) : BitVec 32 :=
  let c_m16_i32_72 : BitVec 32 := 4294967280#32
  let v119 : BitVec 32 := Scalar.andi v118 c_m16_i32_72
  v119

def k0_off10 (i : grid0.Coords) (v118 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_73 : BitVec 32 := 3#32
  let v121 : BitVec 32 := Scalar.shrsi v2 c3_i32_73
  let c1_i32_74 : BitVec 32 := 1#32
  let v122 : BitVec 32 := Scalar.addi v121 c1_i32_74
  let c0_i32_77 : BitVec 32 := 0#32
  let c_m16_i32_72 : BitVec 32 := 4294967280#32
  let v119 : BitVec 32 := Scalar.andi v118 c_m16_i32_72
  let v120 : BitVec 32 := v119
  ![v122.toNat, 0, v120.toNat]
def k0_mult10 (v132 : BitVec 32) : BitVec 32 :=
  let c_m16_i32_81 : BitVec 32 := 4294967280#32
  let v133 : BitVec 32 := Scalar.andi v132 c_m16_i32_81
  v133

def k0_off11 (i : grid0.Coords) (v132 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_82 : BitVec 32 := 3#32
  let v135 : BitVec 32 := Scalar.shrsi v2 c3_i32_82
  let c1_i32_83 : BitVec 32 := 1#32
  let v136 : BitVec 32 := Scalar.addi v135 c1_i32_83
  let c0_i32_86 : BitVec 32 := 0#32
  let c_m16_i32_81 : BitVec 32 := 4294967280#32
  let v133 : BitVec 32 := Scalar.andi v132 c_m16_i32_81
  let v134 : BitVec 32 := v133
  ![v136.toNat, 0, v134.toNat]
def k0_mult11 (v146 : BitVec 32) : BitVec 32 :=
  let c_m16_i32_90 : BitVec 32 := 4294967280#32
  let v147 : BitVec 32 := Scalar.andi v146 c_m16_i32_90
  v147

def k0_off12 (i : grid0.Coords) (v146 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_91 : BitVec 32 := 3#32
  let v149 : BitVec 32 := Scalar.shrsi v2 c3_i32_91
  let c1_i32_92 : BitVec 32 := 1#32
  let v150 : BitVec 32 := Scalar.addi v149 c1_i32_92
  let c0_i32_95 : BitVec 32 := 0#32
  let c_m16_i32_90 : BitVec 32 := 4294967280#32
  let v147 : BitVec 32 := Scalar.andi v146 c_m16_i32_90
  let v148 : BitVec 32 := v147
  ![v150.toNat, 0, v148.toNat]
def k0_mult12 (v160 : BitVec 32) : BitVec 32 :=
  let c_m16_i32_99 : BitVec 32 := 4294967280#32
  let v161 : BitVec 32 := Scalar.andi v160 c_m16_i32_99
  v161

def k0_off13 (i : grid0.Coords) (v160 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_100 : BitVec 32 := 3#32
  let v163 : BitVec 32 := Scalar.shrsi v2 c3_i32_100
  let c1_i32_101 : BitVec 32 := 1#32
  let v164 : BitVec 32 := Scalar.addi v163 c1_i32_101
  let c0_i32_104 : BitVec 32 := 0#32
  let c_m16_i32_99 : BitVec 32 := 4294967280#32
  let v161 : BitVec 32 := Scalar.andi v160 c_m16_i32_99
  let v162 : BitVec 32 := v161
  ![v164.toNat, 0, v162.toNat]
def k0_mult13 (v174 : BitVec 32) : BitVec 32 :=
  let c_m16_i32_108 : BitVec 32 := 4294967280#32
  let v175 : BitVec 32 := Scalar.andi v174 c_m16_i32_108
  v175

def k0_off14 (i : grid0.Coords) (v174 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_109 : BitVec 32 := 3#32
  let v177 : BitVec 32 := Scalar.shrsi v2 c3_i32_109
  let c1_i32_110 : BitVec 32 := 1#32
  let v178 : BitVec 32 := Scalar.addi v177 c1_i32_110
  let c0_i32_113 : BitVec 32 := 0#32
  let c_m16_i32_108 : BitVec 32 := 4294967280#32
  let v175 : BitVec 32 := Scalar.andi v174 c_m16_i32_108
  let v176 : BitVec 32 := v175
  ![v178.toNat, 0, v176.toNat]
def k0_mult14 (v188 : BitVec 32) : BitVec 32 :=
  let c_m16_i32_117 : BitVec 32 := 4294967280#32
  let v189 : BitVec 32 := Scalar.andi v188 c_m16_i32_117
  v189

def k0_off15 (i : grid0.Coords) (v188 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_118 : BitVec 32 := 3#32
  let v191 : BitVec 32 := Scalar.shrsi v2 c3_i32_118
  let c1_i32_119 : BitVec 32 := 1#32
  let v192 : BitVec 32 := Scalar.addi v191 c1_i32_119
  let c0_i32_122 : BitVec 32 := 0#32
  let c_m16_i32_117 : BitVec 32 := 4294967280#32
  let v189 : BitVec 32 := Scalar.andi v188 c_m16_i32_117
  let v190 : BitVec 32 := v189
  ![v192.toNat, 0, v190.toNat]
def k0_mult15 (v202 : BitVec 32) : BitVec 32 :=
  let c_m16_i32_126 : BitVec 32 := 4294967280#32
  let v203 : BitVec 32 := Scalar.andi v202 c_m16_i32_126
  v203

def k0_off16 (i : grid0.Coords) (v202 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_127 : BitVec 32 := 3#32
  let v205 : BitVec 32 := Scalar.shrsi v2 c3_i32_127
  let c1_i32_128 : BitVec 32 := 1#32
  let v206 : BitVec 32 := Scalar.addi v205 c1_i32_128
  let c0_i32_131 : BitVec 32 := 0#32
  let c_m16_i32_126 : BitVec 32 := 4294967280#32
  let v203 : BitVec 32 := Scalar.andi v202 c_m16_i32_126
  let v204 : BitVec 32 := v203
  ![v206.toNat, 0, v204.toNat]
def k0_mult16 (v216 : BitVec 32) : BitVec 32 :=
  let c_m16_i32_135 : BitVec 32 := 4294967280#32
  let v217 : BitVec 32 := Scalar.andi v216 c_m16_i32_135
  v217

def k0_off17 (i : grid0.Coords) (v216 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_136 : BitVec 32 := 3#32
  let v219 : BitVec 32 := Scalar.shrsi v2 c3_i32_136
  let c1_i32_137 : BitVec 32 := 1#32
  let v220 : BitVec 32 := Scalar.addi v219 c1_i32_137
  let c0_i32_140 : BitVec 32 := 0#32
  let c_m16_i32_135 : BitVec 32 := 4294967280#32
  let v217 : BitVec 32 := Scalar.andi v216 c_m16_i32_135
  let v218 : BitVec 32 := v217
  ![v220.toNat, 0, v218.toNat]
def k0_mult17 (v230 : BitVec 32) : BitVec 32 :=
  let c_m16_i32_144 : BitVec 32 := 4294967280#32
  let v231 : BitVec 32 := Scalar.andi v230 c_m16_i32_144
  v231

def k0_off18 (i : grid0.Coords) (v230 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_145 : BitVec 32 := 3#32
  let v233 : BitVec 32 := Scalar.shrsi v2 c3_i32_145
  let c2_i32_146 : BitVec 32 := 2#32
  let v234 : BitVec 32 := Scalar.addi v233 c2_i32_146
  let c0_i32_149 : BitVec 32 := 0#32
  let c_m16_i32_144 : BitVec 32 := 4294967280#32
  let v231 : BitVec 32 := Scalar.andi v230 c_m16_i32_144
  let v232 : BitVec 32 := v231
  ![v234.toNat, 0, v232.toNat]
def k0_mult18 (v244 : BitVec 32) : BitVec 32 :=
  let c_m16_i32_153 : BitVec 32 := 4294967280#32
  let v245 : BitVec 32 := Scalar.andi v244 c_m16_i32_153
  v245

def k0_off19 (i : grid0.Coords) (v244 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_154 : BitVec 32 := 3#32
  let v247 : BitVec 32 := Scalar.shrsi v2 c3_i32_154
  let c2_i32_155 : BitVec 32 := 2#32
  let v248 : BitVec 32 := Scalar.addi v247 c2_i32_155
  let c0_i32_158 : BitVec 32 := 0#32
  let c_m16_i32_153 : BitVec 32 := 4294967280#32
  let v245 : BitVec 32 := Scalar.andi v244 c_m16_i32_153
  let v246 : BitVec 32 := v245
  ![v248.toNat, 0, v246.toNat]
def k0_mult19 (v258 : BitVec 32) : BitVec 32 :=
  let c_m16_i32_162 : BitVec 32 := 4294967280#32
  let v259 : BitVec 32 := Scalar.andi v258 c_m16_i32_162
  v259

def k0_off20 (i : grid0.Coords) (v258 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_163 : BitVec 32 := 3#32
  let v261 : BitVec 32 := Scalar.shrsi v2 c3_i32_163
  let c2_i32_164 : BitVec 32 := 2#32
  let v262 : BitVec 32 := Scalar.addi v261 c2_i32_164
  let c0_i32_167 : BitVec 32 := 0#32
  let c_m16_i32_162 : BitVec 32 := 4294967280#32
  let v259 : BitVec 32 := Scalar.andi v258 c_m16_i32_162
  let v260 : BitVec 32 := v259
  ![v262.toNat, 0, v260.toNat]
def k0_mult20 (v272 : BitVec 32) : BitVec 32 :=
  let c_m16_i32_171 : BitVec 32 := 4294967280#32
  let v273 : BitVec 32 := Scalar.andi v272 c_m16_i32_171
  v273

def k0_off21 (i : grid0.Coords) (v272 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_172 : BitVec 32 := 3#32
  let v275 : BitVec 32 := Scalar.shrsi v2 c3_i32_172
  let c2_i32_173 : BitVec 32 := 2#32
  let v276 : BitVec 32 := Scalar.addi v275 c2_i32_173
  let c0_i32_176 : BitVec 32 := 0#32
  let c_m16_i32_171 : BitVec 32 := 4294967280#32
  let v273 : BitVec 32 := Scalar.andi v272 c_m16_i32_171
  let v274 : BitVec 32 := v273
  ![v276.toNat, 0, v274.toNat]
def k0_mult21 (v286 : BitVec 32) : BitVec 32 :=
  let c_m16_i32_180 : BitVec 32 := 4294967280#32
  let v287 : BitVec 32 := Scalar.andi v286 c_m16_i32_180
  v287

def k0_off22 (i : grid0.Coords) (v286 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_181 : BitVec 32 := 3#32
  let v289 : BitVec 32 := Scalar.shrsi v2 c3_i32_181
  let c2_i32_182 : BitVec 32 := 2#32
  let v290 : BitVec 32 := Scalar.addi v289 c2_i32_182
  let c0_i32_185 : BitVec 32 := 0#32
  let c_m16_i32_180 : BitVec 32 := 4294967280#32
  let v287 : BitVec 32 := Scalar.andi v286 c_m16_i32_180
  let v288 : BitVec 32 := v287
  ![v290.toNat, 0, v288.toNat]
def k0_mult22 (v300 : BitVec 32) : BitVec 32 :=
  let c_m16_i32_189 : BitVec 32 := 4294967280#32
  let v301 : BitVec 32 := Scalar.andi v300 c_m16_i32_189
  v301

def k0_off23 (i : grid0.Coords) (v300 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_190 : BitVec 32 := 3#32
  let v303 : BitVec 32 := Scalar.shrsi v2 c3_i32_190
  let c2_i32_191 : BitVec 32 := 2#32
  let v304 : BitVec 32 := Scalar.addi v303 c2_i32_191
  let c0_i32_194 : BitVec 32 := 0#32
  let c_m16_i32_189 : BitVec 32 := 4294967280#32
  let v301 : BitVec 32 := Scalar.andi v300 c_m16_i32_189
  let v302 : BitVec 32 := v301
  ![v304.toNat, 0, v302.toNat]
def k0_mult23 (v314 : BitVec 32) : BitVec 32 :=
  let c_m16_i32_198 : BitVec 32 := 4294967280#32
  let v315 : BitVec 32 := Scalar.andi v314 c_m16_i32_198
  v315

def k0_off24 (i : grid0.Coords) (v314 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_199 : BitVec 32 := 3#32
  let v317 : BitVec 32 := Scalar.shrsi v2 c3_i32_199
  let c2_i32_200 : BitVec 32 := 2#32
  let v318 : BitVec 32 := Scalar.addi v317 c2_i32_200
  let c0_i32_203 : BitVec 32 := 0#32
  let c_m16_i32_198 : BitVec 32 := 4294967280#32
  let v315 : BitVec 32 := Scalar.andi v314 c_m16_i32_198
  let v316 : BitVec 32 := v315
  ![v318.toNat, 0, v316.toNat]
def k0_mult24 (v328 : BitVec 32) : BitVec 32 :=
  let c_m16_i32_207 : BitVec 32 := 4294967280#32
  let v329 : BitVec 32 := Scalar.andi v328 c_m16_i32_207
  v329

def k0_off25 (i : grid0.Coords) (v328 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_208 : BitVec 32 := 3#32
  let v331 : BitVec 32 := Scalar.shrsi v2 c3_i32_208
  let c2_i32_209 : BitVec 32 := 2#32
  let v332 : BitVec 32 := Scalar.addi v331 c2_i32_209
  let c0_i32_212 : BitVec 32 := 0#32
  let c_m16_i32_207 : BitVec 32 := 4294967280#32
  let v329 : BitVec 32 := Scalar.andi v328 c_m16_i32_207
  let v330 : BitVec 32 := v329
  ![v332.toNat, 0, v330.toNat]
def k0_mult25 (v342 : BitVec 32) : BitVec 32 :=
  let c_m16_i32_216 : BitVec 32 := 4294967280#32
  let v343 : BitVec 32 := Scalar.andi v342 c_m16_i32_216
  v343

def k0_off26 (i : grid0.Coords) (v342 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_217 : BitVec 32 := 3#32
  let v345 : BitVec 32 := Scalar.shrsi v2 c3_i32_217
  let c3_i32_218 : BitVec 32 := 3#32
  let v346 : BitVec 32 := Scalar.addi v345 c3_i32_218
  let c0_i32_221 : BitVec 32 := 0#32
  let c_m16_i32_216 : BitVec 32 := 4294967280#32
  let v343 : BitVec 32 := Scalar.andi v342 c_m16_i32_216
  let v344 : BitVec 32 := v343
  ![v346.toNat, 0, v344.toNat]
def k0_mult26 (v356 : BitVec 32) : BitVec 32 :=
  let c_m16_i32_225 : BitVec 32 := 4294967280#32
  let v357 : BitVec 32 := Scalar.andi v356 c_m16_i32_225
  v357

def k0_off27 (i : grid0.Coords) (v356 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_226 : BitVec 32 := 3#32
  let v359 : BitVec 32 := Scalar.shrsi v2 c3_i32_226
  let c3_i32_227 : BitVec 32 := 3#32
  let v360 : BitVec 32 := Scalar.addi v359 c3_i32_227
  let c0_i32_230 : BitVec 32 := 0#32
  let c_m16_i32_225 : BitVec 32 := 4294967280#32
  let v357 : BitVec 32 := Scalar.andi v356 c_m16_i32_225
  let v358 : BitVec 32 := v357
  ![v360.toNat, 0, v358.toNat]
def k0_mult27 (v370 : BitVec 32) : BitVec 32 :=
  let c_m16_i32_234 : BitVec 32 := 4294967280#32
  let v371 : BitVec 32 := Scalar.andi v370 c_m16_i32_234
  v371

def k0_off28 (i : grid0.Coords) (v370 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_235 : BitVec 32 := 3#32
  let v373 : BitVec 32 := Scalar.shrsi v2 c3_i32_235
  let c3_i32_236 : BitVec 32 := 3#32
  let v374 : BitVec 32 := Scalar.addi v373 c3_i32_236
  let c0_i32_239 : BitVec 32 := 0#32
  let c_m16_i32_234 : BitVec 32 := 4294967280#32
  let v371 : BitVec 32 := Scalar.andi v370 c_m16_i32_234
  let v372 : BitVec 32 := v371
  ![v374.toNat, 0, v372.toNat]
def k0_mult28 (v384 : BitVec 32) : BitVec 32 :=
  let c_m16_i32_243 : BitVec 32 := 4294967280#32
  let v385 : BitVec 32 := Scalar.andi v384 c_m16_i32_243
  v385

def k0_off29 (i : grid0.Coords) (v384 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_244 : BitVec 32 := 3#32
  let v387 : BitVec 32 := Scalar.shrsi v2 c3_i32_244
  let c3_i32_245 : BitVec 32 := 3#32
  let v388 : BitVec 32 := Scalar.addi v387 c3_i32_245
  let c0_i32_248 : BitVec 32 := 0#32
  let c_m16_i32_243 : BitVec 32 := 4294967280#32
  let v385 : BitVec 32 := Scalar.andi v384 c_m16_i32_243
  let v386 : BitVec 32 := v385
  ![v388.toNat, 0, v386.toNat]
def k0_mult29 (v398 : BitVec 32) : BitVec 32 :=
  let c_m16_i32_252 : BitVec 32 := 4294967280#32
  let v399 : BitVec 32 := Scalar.andi v398 c_m16_i32_252
  v399

def k0_off30 (i : grid0.Coords) (v398 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_253 : BitVec 32 := 3#32
  let v401 : BitVec 32 := Scalar.shrsi v2 c3_i32_253
  let c3_i32_254 : BitVec 32 := 3#32
  let v402 : BitVec 32 := Scalar.addi v401 c3_i32_254
  let c0_i32_257 : BitVec 32 := 0#32
  let c_m16_i32_252 : BitVec 32 := 4294967280#32
  let v399 : BitVec 32 := Scalar.andi v398 c_m16_i32_252
  let v400 : BitVec 32 := v399
  ![v402.toNat, 0, v400.toNat]
def k0_mult30 (v412 : BitVec 32) : BitVec 32 :=
  let c_m16_i32_261 : BitVec 32 := 4294967280#32
  let v413 : BitVec 32 := Scalar.andi v412 c_m16_i32_261
  v413

def k0_off31 (i : grid0.Coords) (v412 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_262 : BitVec 32 := 3#32
  let v415 : BitVec 32 := Scalar.shrsi v2 c3_i32_262
  let c3_i32_263 : BitVec 32 := 3#32
  let v416 : BitVec 32 := Scalar.addi v415 c3_i32_263
  let c0_i32_266 : BitVec 32 := 0#32
  let c_m16_i32_261 : BitVec 32 := 4294967280#32
  let v413 : BitVec 32 := Scalar.andi v412 c_m16_i32_261
  let v414 : BitVec 32 := v413
  ![v416.toNat, 0, v414.toNat]
def k0_mult31 (v426 : BitVec 32) : BitVec 32 :=
  let c_m16_i32_270 : BitVec 32 := 4294967280#32
  let v427 : BitVec 32 := Scalar.andi v426 c_m16_i32_270
  v427

def k0_off32 (i : grid0.Coords) (v426 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_271 : BitVec 32 := 3#32
  let v429 : BitVec 32 := Scalar.shrsi v2 c3_i32_271
  let c3_i32_272 : BitVec 32 := 3#32
  let v430 : BitVec 32 := Scalar.addi v429 c3_i32_272
  let c0_i32_275 : BitVec 32 := 0#32
  let c_m16_i32_270 : BitVec 32 := 4294967280#32
  let v427 : BitVec 32 := Scalar.andi v426 c_m16_i32_270
  let v428 : BitVec 32 := v427
  ![v430.toNat, 0, v428.toNat]
def k0_mult32 (v440 : BitVec 32) : BitVec 32 :=
  let c_m16_i32_279 : BitVec 32 := 4294967280#32
  let v441 : BitVec 32 := Scalar.andi v440 c_m16_i32_279
  v441

def k0_off33 (i : grid0.Coords) (v440 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_280 : BitVec 32 := 3#32
  let v443 : BitVec 32 := Scalar.shrsi v2 c3_i32_280
  let c3_i32_281 : BitVec 32 := 3#32
  let v444 : BitVec 32 := Scalar.addi v443 c3_i32_281
  let c0_i32_284 : BitVec 32 := 0#32
  let c_m16_i32_279 : BitVec 32 := 4294967280#32
  let v441 : BitVec 32 := Scalar.andi v440 c_m16_i32_279
  let v442 : BitVec 32 := v441
  ![v444.toNat, 0, v442.toNat]

def k0_chk32 (i : grid0.Coords) (v440 : BitVec 32) : Prop :=
  (16 ∣ (k0_mult32 v440).toNat) ∧
  (∀ a, (k0_off33 i v440) a + S1x8x16.size a ≤ S128x8x100000.size a)
theorem k0_mult32_dvd : ∀ (i : grid0.Coords) (v440 : BitVec 32) (k0_hw32 : k0_chk32 i v440), 16 ∣ (k0_mult32 v440).toNat := fun i v440 k0_hw32 => k0_hw32.1
theorem k0_off33_inb : ∀ (i : grid0.Coords) (v440 : BitVec 32) (k0_hw32 : k0_chk32 i v440), ∀ a, (k0_off33 i v440) a + S1x8x16.size a ≤ S128x8x100000.size a := fun i v440 k0_hw32 => k0_hw32.2

def k0_off34 (i : grid0.Coords) (v6 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v9 : BitVec 32 := Scalar.shrsi v2 c3_i32
  let c0_i32 : BitVec 32 := 0#32
  let v10 : BitVec 32 := Scalar.addi v9 c0_i32
  let c0_i32_291 : BitVec 32 := 0#32
  let c_m16_i32 : BitVec 32 := 4294967280#32
  let v7 : BitVec 32 := Scalar.andi v6 c_m16_i32
  let v8 : BitVec 32 := v7
  ![v10.toNat, 0, v8.toNat]

def k0_chk1 (i : grid0.Coords) (v6 : BitVec 32) : Prop :=
  (16 ∣ (k0_mult1 v6).toNat) ∧
  (∀ a, (k0_off2 i v6) a + S1x8x16.size a ≤ S128x8x100000.size a) ∧
  (∀ a, (k0_off34 i v6) a + S1x8x16.size a ≤ S128x8x100000.size a)
theorem k0_mult1_dvd : ∀ (i : grid0.Coords) (v6 : BitVec 32) (k0_hw1 : k0_chk1 i v6), 16 ∣ (k0_mult1 v6).toNat := fun i v6 k0_hw1 => k0_hw1.1
theorem k0_off2_inb : ∀ (i : grid0.Coords) (v6 : BitVec 32) (k0_hw1 : k0_chk1 i v6), ∀ a, (k0_off2 i v6) a + S1x8x16.size a ≤ S128x8x100000.size a := fun i v6 k0_hw1 => k0_hw1.2.1
theorem k0_off34_inb : ∀ (i : grid0.Coords) (v6 : BitVec 32) (k0_hw1 : k0_chk1 i v6), ∀ a, (k0_off34 i v6) a + S1x8x16.size a ≤ S128x8x100000.size a := fun i v6 k0_hw1 => k0_hw1.2.2

def k0_off35 (i : grid0.Coords) (v20 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_8 : BitVec 32 := 3#32
  let v23 : BitVec 32 := Scalar.shrsi v2 c3_i32_8
  let c0_i32_9 : BitVec 32 := 0#32
  let v24 : BitVec 32 := Scalar.addi v23 c0_i32_9
  let c0_i32_298 : BitVec 32 := 0#32
  let c_m16_i32_7 : BitVec 32 := 4294967280#32
  let v21 : BitVec 32 := Scalar.andi v20 c_m16_i32_7
  let v22 : BitVec 32 := v21
  ![v24.toNat, 0, v22.toNat]

def k0_chk2 (i : grid0.Coords) (v20 : BitVec 32) : Prop :=
  (16 ∣ (k0_mult2 v20).toNat) ∧
  (∀ a, (k0_off3 i v20) a + S1x8x16.size a ≤ S128x8x100000.size a) ∧
  (∀ a, (k0_off35 i v20) a + S1x8x16.size a ≤ S128x8x100000.size a)
theorem k0_mult2_dvd : ∀ (i : grid0.Coords) (v20 : BitVec 32) (k0_hw2 : k0_chk2 i v20), 16 ∣ (k0_mult2 v20).toNat := fun i v20 k0_hw2 => k0_hw2.1
theorem k0_off3_inb : ∀ (i : grid0.Coords) (v20 : BitVec 32) (k0_hw2 : k0_chk2 i v20), ∀ a, (k0_off3 i v20) a + S1x8x16.size a ≤ S128x8x100000.size a := fun i v20 k0_hw2 => k0_hw2.2.1
theorem k0_off35_inb : ∀ (i : grid0.Coords) (v20 : BitVec 32) (k0_hw2 : k0_chk2 i v20), ∀ a, (k0_off35 i v20) a + S1x8x16.size a ≤ S128x8x100000.size a := fun i v20 k0_hw2 => k0_hw2.2.2

def k0_off36 (i : grid0.Coords) (v34 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_17 : BitVec 32 := 3#32
  let v37 : BitVec 32 := Scalar.shrsi v2 c3_i32_17
  let c0_i32_18 : BitVec 32 := 0#32
  let v38 : BitVec 32 := Scalar.addi v37 c0_i32_18
  let c0_i32_305 : BitVec 32 := 0#32
  let c_m16_i32_16 : BitVec 32 := 4294967280#32
  let v35 : BitVec 32 := Scalar.andi v34 c_m16_i32_16
  let v36 : BitVec 32 := v35
  ![v38.toNat, 0, v36.toNat]

def k0_chk3 (i : grid0.Coords) (v34 : BitVec 32) : Prop :=
  (16 ∣ (k0_mult3 v34).toNat) ∧
  (∀ a, (k0_off4 i v34) a + S1x8x16.size a ≤ S128x8x100000.size a) ∧
  (∀ a, (k0_off36 i v34) a + S1x8x16.size a ≤ S128x8x100000.size a)
theorem k0_mult3_dvd : ∀ (i : grid0.Coords) (v34 : BitVec 32) (k0_hw3 : k0_chk3 i v34), 16 ∣ (k0_mult3 v34).toNat := fun i v34 k0_hw3 => k0_hw3.1
theorem k0_off4_inb : ∀ (i : grid0.Coords) (v34 : BitVec 32) (k0_hw3 : k0_chk3 i v34), ∀ a, (k0_off4 i v34) a + S1x8x16.size a ≤ S128x8x100000.size a := fun i v34 k0_hw3 => k0_hw3.2.1
theorem k0_off36_inb : ∀ (i : grid0.Coords) (v34 : BitVec 32) (k0_hw3 : k0_chk3 i v34), ∀ a, (k0_off36 i v34) a + S1x8x16.size a ≤ S128x8x100000.size a := fun i v34 k0_hw3 => k0_hw3.2.2

def k0_off37 (i : grid0.Coords) (v48 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_27 : BitVec 32 := 3#32
  let v51 : BitVec 32 := Scalar.shrsi v2 c3_i32_27
  let c0_i32_28 : BitVec 32 := 0#32
  let v52 : BitVec 32 := Scalar.addi v51 c0_i32_28
  let c0_i32_312 : BitVec 32 := 0#32
  let c_m16_i32_26 : BitVec 32 := 4294967280#32
  let v49 : BitVec 32 := Scalar.andi v48 c_m16_i32_26
  let v50 : BitVec 32 := v49
  ![v52.toNat, 0, v50.toNat]

def k0_chk4 (i : grid0.Coords) (v48 : BitVec 32) : Prop :=
  (16 ∣ (k0_mult4 v48).toNat) ∧
  (∀ a, (k0_off5 i v48) a + S1x8x16.size a ≤ S128x8x100000.size a) ∧
  (∀ a, (k0_off37 i v48) a + S1x8x16.size a ≤ S128x8x100000.size a)
theorem k0_mult4_dvd : ∀ (i : grid0.Coords) (v48 : BitVec 32) (k0_hw4 : k0_chk4 i v48), 16 ∣ (k0_mult4 v48).toNat := fun i v48 k0_hw4 => k0_hw4.1
theorem k0_off5_inb : ∀ (i : grid0.Coords) (v48 : BitVec 32) (k0_hw4 : k0_chk4 i v48), ∀ a, (k0_off5 i v48) a + S1x8x16.size a ≤ S128x8x100000.size a := fun i v48 k0_hw4 => k0_hw4.2.1
theorem k0_off37_inb : ∀ (i : grid0.Coords) (v48 : BitVec 32) (k0_hw4 : k0_chk4 i v48), ∀ a, (k0_off37 i v48) a + S1x8x16.size a ≤ S128x8x100000.size a := fun i v48 k0_hw4 => k0_hw4.2.2

def k0_off38 (i : grid0.Coords) (v62 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_37 : BitVec 32 := 3#32
  let v65 : BitVec 32 := Scalar.shrsi v2 c3_i32_37
  let c0_i32_38 : BitVec 32 := 0#32
  let v66 : BitVec 32 := Scalar.addi v65 c0_i32_38
  let c0_i32_319 : BitVec 32 := 0#32
  let c_m16_i32_36 : BitVec 32 := 4294967280#32
  let v63 : BitVec 32 := Scalar.andi v62 c_m16_i32_36
  let v64 : BitVec 32 := v63
  ![v66.toNat, 0, v64.toNat]

def k0_chk5 (i : grid0.Coords) (v62 : BitVec 32) : Prop :=
  (16 ∣ (k0_mult5 v62).toNat) ∧
  (∀ a, (k0_off6 i v62) a + S1x8x16.size a ≤ S128x8x100000.size a) ∧
  (∀ a, (k0_off38 i v62) a + S1x8x16.size a ≤ S128x8x100000.size a)
theorem k0_mult5_dvd : ∀ (i : grid0.Coords) (v62 : BitVec 32) (k0_hw5 : k0_chk5 i v62), 16 ∣ (k0_mult5 v62).toNat := fun i v62 k0_hw5 => k0_hw5.1
theorem k0_off6_inb : ∀ (i : grid0.Coords) (v62 : BitVec 32) (k0_hw5 : k0_chk5 i v62), ∀ a, (k0_off6 i v62) a + S1x8x16.size a ≤ S128x8x100000.size a := fun i v62 k0_hw5 => k0_hw5.2.1
theorem k0_off38_inb : ∀ (i : grid0.Coords) (v62 : BitVec 32) (k0_hw5 : k0_chk5 i v62), ∀ a, (k0_off38 i v62) a + S1x8x16.size a ≤ S128x8x100000.size a := fun i v62 k0_hw5 => k0_hw5.2.2

def k0_off39 (i : grid0.Coords) (v76 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_46 : BitVec 32 := 3#32
  let v79 : BitVec 32 := Scalar.shrsi v2 c3_i32_46
  let c0_i32_47 : BitVec 32 := 0#32
  let v80 : BitVec 32 := Scalar.addi v79 c0_i32_47
  let c0_i32_326 : BitVec 32 := 0#32
  let c_m16_i32_45 : BitVec 32 := 4294967280#32
  let v77 : BitVec 32 := Scalar.andi v76 c_m16_i32_45
  let v78 : BitVec 32 := v77
  ![v80.toNat, 0, v78.toNat]

def k0_chk6 (i : grid0.Coords) (v76 : BitVec 32) : Prop :=
  (16 ∣ (k0_mult6 v76).toNat) ∧
  (∀ a, (k0_off7 i v76) a + S1x8x16.size a ≤ S128x8x100000.size a) ∧
  (∀ a, (k0_off39 i v76) a + S1x8x16.size a ≤ S128x8x100000.size a)
theorem k0_mult6_dvd : ∀ (i : grid0.Coords) (v76 : BitVec 32) (k0_hw6 : k0_chk6 i v76), 16 ∣ (k0_mult6 v76).toNat := fun i v76 k0_hw6 => k0_hw6.1
theorem k0_off7_inb : ∀ (i : grid0.Coords) (v76 : BitVec 32) (k0_hw6 : k0_chk6 i v76), ∀ a, (k0_off7 i v76) a + S1x8x16.size a ≤ S128x8x100000.size a := fun i v76 k0_hw6 => k0_hw6.2.1
theorem k0_off39_inb : ∀ (i : grid0.Coords) (v76 : BitVec 32) (k0_hw6 : k0_chk6 i v76), ∀ a, (k0_off39 i v76) a + S1x8x16.size a ≤ S128x8x100000.size a := fun i v76 k0_hw6 => k0_hw6.2.2

def k0_off40 (i : grid0.Coords) (v90 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_55 : BitVec 32 := 3#32
  let v93 : BitVec 32 := Scalar.shrsi v2 c3_i32_55
  let c0_i32_56 : BitVec 32 := 0#32
  let v94 : BitVec 32 := Scalar.addi v93 c0_i32_56
  let c0_i32_333 : BitVec 32 := 0#32
  let c_m16_i32_54 : BitVec 32 := 4294967280#32
  let v91 : BitVec 32 := Scalar.andi v90 c_m16_i32_54
  let v92 : BitVec 32 := v91
  ![v94.toNat, 0, v92.toNat]

def k0_chk7 (i : grid0.Coords) (v90 : BitVec 32) : Prop :=
  (16 ∣ (k0_mult7 v90).toNat) ∧
  (∀ a, (k0_off8 i v90) a + S1x8x16.size a ≤ S128x8x100000.size a) ∧
  (∀ a, (k0_off40 i v90) a + S1x8x16.size a ≤ S128x8x100000.size a)
theorem k0_mult7_dvd : ∀ (i : grid0.Coords) (v90 : BitVec 32) (k0_hw7 : k0_chk7 i v90), 16 ∣ (k0_mult7 v90).toNat := fun i v90 k0_hw7 => k0_hw7.1
theorem k0_off8_inb : ∀ (i : grid0.Coords) (v90 : BitVec 32) (k0_hw7 : k0_chk7 i v90), ∀ a, (k0_off8 i v90) a + S1x8x16.size a ≤ S128x8x100000.size a := fun i v90 k0_hw7 => k0_hw7.2.1
theorem k0_off40_inb : ∀ (i : grid0.Coords) (v90 : BitVec 32) (k0_hw7 : k0_chk7 i v90), ∀ a, (k0_off40 i v90) a + S1x8x16.size a ≤ S128x8x100000.size a := fun i v90 k0_hw7 => k0_hw7.2.2

def k0_off41 (i : grid0.Coords) (v104 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_64 : BitVec 32 := 3#32
  let v107 : BitVec 32 := Scalar.shrsi v2 c3_i32_64
  let c0_i32_65 : BitVec 32 := 0#32
  let v108 : BitVec 32 := Scalar.addi v107 c0_i32_65
  let c0_i32_340 : BitVec 32 := 0#32
  let c_m16_i32_63 : BitVec 32 := 4294967280#32
  let v105 : BitVec 32 := Scalar.andi v104 c_m16_i32_63
  let v106 : BitVec 32 := v105
  ![v108.toNat, 0, v106.toNat]

def k0_chk8 (i : grid0.Coords) (v104 : BitVec 32) : Prop :=
  (16 ∣ (k0_mult8 v104).toNat) ∧
  (∀ a, (k0_off9 i v104) a + S1x8x16.size a ≤ S128x8x100000.size a) ∧
  (∀ a, (k0_off41 i v104) a + S1x8x16.size a ≤ S128x8x100000.size a)
theorem k0_mult8_dvd : ∀ (i : grid0.Coords) (v104 : BitVec 32) (k0_hw8 : k0_chk8 i v104), 16 ∣ (k0_mult8 v104).toNat := fun i v104 k0_hw8 => k0_hw8.1
theorem k0_off9_inb : ∀ (i : grid0.Coords) (v104 : BitVec 32) (k0_hw8 : k0_chk8 i v104), ∀ a, (k0_off9 i v104) a + S1x8x16.size a ≤ S128x8x100000.size a := fun i v104 k0_hw8 => k0_hw8.2.1
theorem k0_off41_inb : ∀ (i : grid0.Coords) (v104 : BitVec 32) (k0_hw8 : k0_chk8 i v104), ∀ a, (k0_off41 i v104) a + S1x8x16.size a ≤ S128x8x100000.size a := fun i v104 k0_hw8 => k0_hw8.2.2

def k0_off42 (i : grid0.Coords) (v118 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_73 : BitVec 32 := 3#32
  let v121 : BitVec 32 := Scalar.shrsi v2 c3_i32_73
  let c1_i32_74 : BitVec 32 := 1#32
  let v122 : BitVec 32 := Scalar.addi v121 c1_i32_74
  let c0_i32_347 : BitVec 32 := 0#32
  let c_m16_i32_72 : BitVec 32 := 4294967280#32
  let v119 : BitVec 32 := Scalar.andi v118 c_m16_i32_72
  let v120 : BitVec 32 := v119
  ![v122.toNat, 0, v120.toNat]

def k0_chk9 (i : grid0.Coords) (v118 : BitVec 32) : Prop :=
  (16 ∣ (k0_mult9 v118).toNat) ∧
  (∀ a, (k0_off10 i v118) a + S1x8x16.size a ≤ S128x8x100000.size a) ∧
  (∀ a, (k0_off42 i v118) a + S1x8x16.size a ≤ S128x8x100000.size a)
theorem k0_mult9_dvd : ∀ (i : grid0.Coords) (v118 : BitVec 32) (k0_hw9 : k0_chk9 i v118), 16 ∣ (k0_mult9 v118).toNat := fun i v118 k0_hw9 => k0_hw9.1
theorem k0_off10_inb : ∀ (i : grid0.Coords) (v118 : BitVec 32) (k0_hw9 : k0_chk9 i v118), ∀ a, (k0_off10 i v118) a + S1x8x16.size a ≤ S128x8x100000.size a := fun i v118 k0_hw9 => k0_hw9.2.1
theorem k0_off42_inb : ∀ (i : grid0.Coords) (v118 : BitVec 32) (k0_hw9 : k0_chk9 i v118), ∀ a, (k0_off42 i v118) a + S1x8x16.size a ≤ S128x8x100000.size a := fun i v118 k0_hw9 => k0_hw9.2.2

def k0_off43 (i : grid0.Coords) (v132 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_82 : BitVec 32 := 3#32
  let v135 : BitVec 32 := Scalar.shrsi v2 c3_i32_82
  let c1_i32_83 : BitVec 32 := 1#32
  let v136 : BitVec 32 := Scalar.addi v135 c1_i32_83
  let c0_i32_354 : BitVec 32 := 0#32
  let c_m16_i32_81 : BitVec 32 := 4294967280#32
  let v133 : BitVec 32 := Scalar.andi v132 c_m16_i32_81
  let v134 : BitVec 32 := v133
  ![v136.toNat, 0, v134.toNat]

def k0_chk10 (i : grid0.Coords) (v132 : BitVec 32) : Prop :=
  (16 ∣ (k0_mult10 v132).toNat) ∧
  (∀ a, (k0_off11 i v132) a + S1x8x16.size a ≤ S128x8x100000.size a) ∧
  (∀ a, (k0_off43 i v132) a + S1x8x16.size a ≤ S128x8x100000.size a)
theorem k0_mult10_dvd : ∀ (i : grid0.Coords) (v132 : BitVec 32) (k0_hw10 : k0_chk10 i v132), 16 ∣ (k0_mult10 v132).toNat := fun i v132 k0_hw10 => k0_hw10.1
theorem k0_off11_inb : ∀ (i : grid0.Coords) (v132 : BitVec 32) (k0_hw10 : k0_chk10 i v132), ∀ a, (k0_off11 i v132) a + S1x8x16.size a ≤ S128x8x100000.size a := fun i v132 k0_hw10 => k0_hw10.2.1
theorem k0_off43_inb : ∀ (i : grid0.Coords) (v132 : BitVec 32) (k0_hw10 : k0_chk10 i v132), ∀ a, (k0_off43 i v132) a + S1x8x16.size a ≤ S128x8x100000.size a := fun i v132 k0_hw10 => k0_hw10.2.2

def k0_off44 (i : grid0.Coords) (v146 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_91 : BitVec 32 := 3#32
  let v149 : BitVec 32 := Scalar.shrsi v2 c3_i32_91
  let c1_i32_92 : BitVec 32 := 1#32
  let v150 : BitVec 32 := Scalar.addi v149 c1_i32_92
  let c0_i32_361 : BitVec 32 := 0#32
  let c_m16_i32_90 : BitVec 32 := 4294967280#32
  let v147 : BitVec 32 := Scalar.andi v146 c_m16_i32_90
  let v148 : BitVec 32 := v147
  ![v150.toNat, 0, v148.toNat]

def k0_chk11 (i : grid0.Coords) (v146 : BitVec 32) : Prop :=
  (16 ∣ (k0_mult11 v146).toNat) ∧
  (∀ a, (k0_off12 i v146) a + S1x8x16.size a ≤ S128x8x100000.size a) ∧
  (∀ a, (k0_off44 i v146) a + S1x8x16.size a ≤ S128x8x100000.size a)
theorem k0_mult11_dvd : ∀ (i : grid0.Coords) (v146 : BitVec 32) (k0_hw11 : k0_chk11 i v146), 16 ∣ (k0_mult11 v146).toNat := fun i v146 k0_hw11 => k0_hw11.1
theorem k0_off12_inb : ∀ (i : grid0.Coords) (v146 : BitVec 32) (k0_hw11 : k0_chk11 i v146), ∀ a, (k0_off12 i v146) a + S1x8x16.size a ≤ S128x8x100000.size a := fun i v146 k0_hw11 => k0_hw11.2.1
theorem k0_off44_inb : ∀ (i : grid0.Coords) (v146 : BitVec 32) (k0_hw11 : k0_chk11 i v146), ∀ a, (k0_off44 i v146) a + S1x8x16.size a ≤ S128x8x100000.size a := fun i v146 k0_hw11 => k0_hw11.2.2

def k0_off45 (i : grid0.Coords) (v160 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_100 : BitVec 32 := 3#32
  let v163 : BitVec 32 := Scalar.shrsi v2 c3_i32_100
  let c1_i32_101 : BitVec 32 := 1#32
  let v164 : BitVec 32 := Scalar.addi v163 c1_i32_101
  let c0_i32_368 : BitVec 32 := 0#32
  let c_m16_i32_99 : BitVec 32 := 4294967280#32
  let v161 : BitVec 32 := Scalar.andi v160 c_m16_i32_99
  let v162 : BitVec 32 := v161
  ![v164.toNat, 0, v162.toNat]

def k0_chk12 (i : grid0.Coords) (v160 : BitVec 32) : Prop :=
  (16 ∣ (k0_mult12 v160).toNat) ∧
  (∀ a, (k0_off13 i v160) a + S1x8x16.size a ≤ S128x8x100000.size a) ∧
  (∀ a, (k0_off45 i v160) a + S1x8x16.size a ≤ S128x8x100000.size a)
theorem k0_mult12_dvd : ∀ (i : grid0.Coords) (v160 : BitVec 32) (k0_hw12 : k0_chk12 i v160), 16 ∣ (k0_mult12 v160).toNat := fun i v160 k0_hw12 => k0_hw12.1
theorem k0_off13_inb : ∀ (i : grid0.Coords) (v160 : BitVec 32) (k0_hw12 : k0_chk12 i v160), ∀ a, (k0_off13 i v160) a + S1x8x16.size a ≤ S128x8x100000.size a := fun i v160 k0_hw12 => k0_hw12.2.1
theorem k0_off45_inb : ∀ (i : grid0.Coords) (v160 : BitVec 32) (k0_hw12 : k0_chk12 i v160), ∀ a, (k0_off45 i v160) a + S1x8x16.size a ≤ S128x8x100000.size a := fun i v160 k0_hw12 => k0_hw12.2.2

def k0_off46 (i : grid0.Coords) (v174 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_109 : BitVec 32 := 3#32
  let v177 : BitVec 32 := Scalar.shrsi v2 c3_i32_109
  let c1_i32_110 : BitVec 32 := 1#32
  let v178 : BitVec 32 := Scalar.addi v177 c1_i32_110
  let c0_i32_375 : BitVec 32 := 0#32
  let c_m16_i32_108 : BitVec 32 := 4294967280#32
  let v175 : BitVec 32 := Scalar.andi v174 c_m16_i32_108
  let v176 : BitVec 32 := v175
  ![v178.toNat, 0, v176.toNat]

def k0_chk13 (i : grid0.Coords) (v174 : BitVec 32) : Prop :=
  (16 ∣ (k0_mult13 v174).toNat) ∧
  (∀ a, (k0_off14 i v174) a + S1x8x16.size a ≤ S128x8x100000.size a) ∧
  (∀ a, (k0_off46 i v174) a + S1x8x16.size a ≤ S128x8x100000.size a)
theorem k0_mult13_dvd : ∀ (i : grid0.Coords) (v174 : BitVec 32) (k0_hw13 : k0_chk13 i v174), 16 ∣ (k0_mult13 v174).toNat := fun i v174 k0_hw13 => k0_hw13.1
theorem k0_off14_inb : ∀ (i : grid0.Coords) (v174 : BitVec 32) (k0_hw13 : k0_chk13 i v174), ∀ a, (k0_off14 i v174) a + S1x8x16.size a ≤ S128x8x100000.size a := fun i v174 k0_hw13 => k0_hw13.2.1
theorem k0_off46_inb : ∀ (i : grid0.Coords) (v174 : BitVec 32) (k0_hw13 : k0_chk13 i v174), ∀ a, (k0_off46 i v174) a + S1x8x16.size a ≤ S128x8x100000.size a := fun i v174 k0_hw13 => k0_hw13.2.2

def k0_off47 (i : grid0.Coords) (v188 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_118 : BitVec 32 := 3#32
  let v191 : BitVec 32 := Scalar.shrsi v2 c3_i32_118
  let c1_i32_119 : BitVec 32 := 1#32
  let v192 : BitVec 32 := Scalar.addi v191 c1_i32_119
  let c0_i32_382 : BitVec 32 := 0#32
  let c_m16_i32_117 : BitVec 32 := 4294967280#32
  let v189 : BitVec 32 := Scalar.andi v188 c_m16_i32_117
  let v190 : BitVec 32 := v189
  ![v192.toNat, 0, v190.toNat]

def k0_chk14 (i : grid0.Coords) (v188 : BitVec 32) : Prop :=
  (16 ∣ (k0_mult14 v188).toNat) ∧
  (∀ a, (k0_off15 i v188) a + S1x8x16.size a ≤ S128x8x100000.size a) ∧
  (∀ a, (k0_off47 i v188) a + S1x8x16.size a ≤ S128x8x100000.size a)
theorem k0_mult14_dvd : ∀ (i : grid0.Coords) (v188 : BitVec 32) (k0_hw14 : k0_chk14 i v188), 16 ∣ (k0_mult14 v188).toNat := fun i v188 k0_hw14 => k0_hw14.1
theorem k0_off15_inb : ∀ (i : grid0.Coords) (v188 : BitVec 32) (k0_hw14 : k0_chk14 i v188), ∀ a, (k0_off15 i v188) a + S1x8x16.size a ≤ S128x8x100000.size a := fun i v188 k0_hw14 => k0_hw14.2.1
theorem k0_off47_inb : ∀ (i : grid0.Coords) (v188 : BitVec 32) (k0_hw14 : k0_chk14 i v188), ∀ a, (k0_off47 i v188) a + S1x8x16.size a ≤ S128x8x100000.size a := fun i v188 k0_hw14 => k0_hw14.2.2

def k0_off48 (i : grid0.Coords) (v202 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_127 : BitVec 32 := 3#32
  let v205 : BitVec 32 := Scalar.shrsi v2 c3_i32_127
  let c1_i32_128 : BitVec 32 := 1#32
  let v206 : BitVec 32 := Scalar.addi v205 c1_i32_128
  let c0_i32_389 : BitVec 32 := 0#32
  let c_m16_i32_126 : BitVec 32 := 4294967280#32
  let v203 : BitVec 32 := Scalar.andi v202 c_m16_i32_126
  let v204 : BitVec 32 := v203
  ![v206.toNat, 0, v204.toNat]

def k0_chk15 (i : grid0.Coords) (v202 : BitVec 32) : Prop :=
  (16 ∣ (k0_mult15 v202).toNat) ∧
  (∀ a, (k0_off16 i v202) a + S1x8x16.size a ≤ S128x8x100000.size a) ∧
  (∀ a, (k0_off48 i v202) a + S1x8x16.size a ≤ S128x8x100000.size a)
theorem k0_mult15_dvd : ∀ (i : grid0.Coords) (v202 : BitVec 32) (k0_hw15 : k0_chk15 i v202), 16 ∣ (k0_mult15 v202).toNat := fun i v202 k0_hw15 => k0_hw15.1
theorem k0_off16_inb : ∀ (i : grid0.Coords) (v202 : BitVec 32) (k0_hw15 : k0_chk15 i v202), ∀ a, (k0_off16 i v202) a + S1x8x16.size a ≤ S128x8x100000.size a := fun i v202 k0_hw15 => k0_hw15.2.1
theorem k0_off48_inb : ∀ (i : grid0.Coords) (v202 : BitVec 32) (k0_hw15 : k0_chk15 i v202), ∀ a, (k0_off48 i v202) a + S1x8x16.size a ≤ S128x8x100000.size a := fun i v202 k0_hw15 => k0_hw15.2.2

def k0_off49 (i : grid0.Coords) (v216 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_136 : BitVec 32 := 3#32
  let v219 : BitVec 32 := Scalar.shrsi v2 c3_i32_136
  let c1_i32_137 : BitVec 32 := 1#32
  let v220 : BitVec 32 := Scalar.addi v219 c1_i32_137
  let c0_i32_396 : BitVec 32 := 0#32
  let c_m16_i32_135 : BitVec 32 := 4294967280#32
  let v217 : BitVec 32 := Scalar.andi v216 c_m16_i32_135
  let v218 : BitVec 32 := v217
  ![v220.toNat, 0, v218.toNat]

def k0_chk16 (i : grid0.Coords) (v216 : BitVec 32) : Prop :=
  (16 ∣ (k0_mult16 v216).toNat) ∧
  (∀ a, (k0_off17 i v216) a + S1x8x16.size a ≤ S128x8x100000.size a) ∧
  (∀ a, (k0_off49 i v216) a + S1x8x16.size a ≤ S128x8x100000.size a)
theorem k0_mult16_dvd : ∀ (i : grid0.Coords) (v216 : BitVec 32) (k0_hw16 : k0_chk16 i v216), 16 ∣ (k0_mult16 v216).toNat := fun i v216 k0_hw16 => k0_hw16.1
theorem k0_off17_inb : ∀ (i : grid0.Coords) (v216 : BitVec 32) (k0_hw16 : k0_chk16 i v216), ∀ a, (k0_off17 i v216) a + S1x8x16.size a ≤ S128x8x100000.size a := fun i v216 k0_hw16 => k0_hw16.2.1
theorem k0_off49_inb : ∀ (i : grid0.Coords) (v216 : BitVec 32) (k0_hw16 : k0_chk16 i v216), ∀ a, (k0_off49 i v216) a + S1x8x16.size a ≤ S128x8x100000.size a := fun i v216 k0_hw16 => k0_hw16.2.2

def k0_off50 (i : grid0.Coords) (v230 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_145 : BitVec 32 := 3#32
  let v233 : BitVec 32 := Scalar.shrsi v2 c3_i32_145
  let c2_i32_146 : BitVec 32 := 2#32
  let v234 : BitVec 32 := Scalar.addi v233 c2_i32_146
  let c0_i32_403 : BitVec 32 := 0#32
  let c_m16_i32_144 : BitVec 32 := 4294967280#32
  let v231 : BitVec 32 := Scalar.andi v230 c_m16_i32_144
  let v232 : BitVec 32 := v231
  ![v234.toNat, 0, v232.toNat]

def k0_chk17 (i : grid0.Coords) (v230 : BitVec 32) : Prop :=
  (16 ∣ (k0_mult17 v230).toNat) ∧
  (∀ a, (k0_off18 i v230) a + S1x8x16.size a ≤ S128x8x100000.size a) ∧
  (∀ a, (k0_off50 i v230) a + S1x8x16.size a ≤ S128x8x100000.size a)
theorem k0_mult17_dvd : ∀ (i : grid0.Coords) (v230 : BitVec 32) (k0_hw17 : k0_chk17 i v230), 16 ∣ (k0_mult17 v230).toNat := fun i v230 k0_hw17 => k0_hw17.1
theorem k0_off18_inb : ∀ (i : grid0.Coords) (v230 : BitVec 32) (k0_hw17 : k0_chk17 i v230), ∀ a, (k0_off18 i v230) a + S1x8x16.size a ≤ S128x8x100000.size a := fun i v230 k0_hw17 => k0_hw17.2.1
theorem k0_off50_inb : ∀ (i : grid0.Coords) (v230 : BitVec 32) (k0_hw17 : k0_chk17 i v230), ∀ a, (k0_off50 i v230) a + S1x8x16.size a ≤ S128x8x100000.size a := fun i v230 k0_hw17 => k0_hw17.2.2

def k0_off51 (i : grid0.Coords) (v244 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_154 : BitVec 32 := 3#32
  let v247 : BitVec 32 := Scalar.shrsi v2 c3_i32_154
  let c2_i32_155 : BitVec 32 := 2#32
  let v248 : BitVec 32 := Scalar.addi v247 c2_i32_155
  let c0_i32_410 : BitVec 32 := 0#32
  let c_m16_i32_153 : BitVec 32 := 4294967280#32
  let v245 : BitVec 32 := Scalar.andi v244 c_m16_i32_153
  let v246 : BitVec 32 := v245
  ![v248.toNat, 0, v246.toNat]

def k0_chk18 (i : grid0.Coords) (v244 : BitVec 32) : Prop :=
  (16 ∣ (k0_mult18 v244).toNat) ∧
  (∀ a, (k0_off19 i v244) a + S1x8x16.size a ≤ S128x8x100000.size a) ∧
  (∀ a, (k0_off51 i v244) a + S1x8x16.size a ≤ S128x8x100000.size a)
theorem k0_mult18_dvd : ∀ (i : grid0.Coords) (v244 : BitVec 32) (k0_hw18 : k0_chk18 i v244), 16 ∣ (k0_mult18 v244).toNat := fun i v244 k0_hw18 => k0_hw18.1
theorem k0_off19_inb : ∀ (i : grid0.Coords) (v244 : BitVec 32) (k0_hw18 : k0_chk18 i v244), ∀ a, (k0_off19 i v244) a + S1x8x16.size a ≤ S128x8x100000.size a := fun i v244 k0_hw18 => k0_hw18.2.1
theorem k0_off51_inb : ∀ (i : grid0.Coords) (v244 : BitVec 32) (k0_hw18 : k0_chk18 i v244), ∀ a, (k0_off51 i v244) a + S1x8x16.size a ≤ S128x8x100000.size a := fun i v244 k0_hw18 => k0_hw18.2.2

def k0_off52 (i : grid0.Coords) (v258 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_163 : BitVec 32 := 3#32
  let v261 : BitVec 32 := Scalar.shrsi v2 c3_i32_163
  let c2_i32_164 : BitVec 32 := 2#32
  let v262 : BitVec 32 := Scalar.addi v261 c2_i32_164
  let c0_i32_417 : BitVec 32 := 0#32
  let c_m16_i32_162 : BitVec 32 := 4294967280#32
  let v259 : BitVec 32 := Scalar.andi v258 c_m16_i32_162
  let v260 : BitVec 32 := v259
  ![v262.toNat, 0, v260.toNat]

def k0_chk19 (i : grid0.Coords) (v258 : BitVec 32) : Prop :=
  (16 ∣ (k0_mult19 v258).toNat) ∧
  (∀ a, (k0_off20 i v258) a + S1x8x16.size a ≤ S128x8x100000.size a) ∧
  (∀ a, (k0_off52 i v258) a + S1x8x16.size a ≤ S128x8x100000.size a)
theorem k0_mult19_dvd : ∀ (i : grid0.Coords) (v258 : BitVec 32) (k0_hw19 : k0_chk19 i v258), 16 ∣ (k0_mult19 v258).toNat := fun i v258 k0_hw19 => k0_hw19.1
theorem k0_off20_inb : ∀ (i : grid0.Coords) (v258 : BitVec 32) (k0_hw19 : k0_chk19 i v258), ∀ a, (k0_off20 i v258) a + S1x8x16.size a ≤ S128x8x100000.size a := fun i v258 k0_hw19 => k0_hw19.2.1
theorem k0_off52_inb : ∀ (i : grid0.Coords) (v258 : BitVec 32) (k0_hw19 : k0_chk19 i v258), ∀ a, (k0_off52 i v258) a + S1x8x16.size a ≤ S128x8x100000.size a := fun i v258 k0_hw19 => k0_hw19.2.2

def k0_off53 (i : grid0.Coords) (v272 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_172 : BitVec 32 := 3#32
  let v275 : BitVec 32 := Scalar.shrsi v2 c3_i32_172
  let c2_i32_173 : BitVec 32 := 2#32
  let v276 : BitVec 32 := Scalar.addi v275 c2_i32_173
  let c0_i32_424 : BitVec 32 := 0#32
  let c_m16_i32_171 : BitVec 32 := 4294967280#32
  let v273 : BitVec 32 := Scalar.andi v272 c_m16_i32_171
  let v274 : BitVec 32 := v273
  ![v276.toNat, 0, v274.toNat]

def k0_chk20 (i : grid0.Coords) (v272 : BitVec 32) : Prop :=
  (16 ∣ (k0_mult20 v272).toNat) ∧
  (∀ a, (k0_off21 i v272) a + S1x8x16.size a ≤ S128x8x100000.size a) ∧
  (∀ a, (k0_off53 i v272) a + S1x8x16.size a ≤ S128x8x100000.size a)
theorem k0_mult20_dvd : ∀ (i : grid0.Coords) (v272 : BitVec 32) (k0_hw20 : k0_chk20 i v272), 16 ∣ (k0_mult20 v272).toNat := fun i v272 k0_hw20 => k0_hw20.1
theorem k0_off21_inb : ∀ (i : grid0.Coords) (v272 : BitVec 32) (k0_hw20 : k0_chk20 i v272), ∀ a, (k0_off21 i v272) a + S1x8x16.size a ≤ S128x8x100000.size a := fun i v272 k0_hw20 => k0_hw20.2.1
theorem k0_off53_inb : ∀ (i : grid0.Coords) (v272 : BitVec 32) (k0_hw20 : k0_chk20 i v272), ∀ a, (k0_off53 i v272) a + S1x8x16.size a ≤ S128x8x100000.size a := fun i v272 k0_hw20 => k0_hw20.2.2

def k0_off54 (i : grid0.Coords) (v286 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_181 : BitVec 32 := 3#32
  let v289 : BitVec 32 := Scalar.shrsi v2 c3_i32_181
  let c2_i32_182 : BitVec 32 := 2#32
  let v290 : BitVec 32 := Scalar.addi v289 c2_i32_182
  let c0_i32_431 : BitVec 32 := 0#32
  let c_m16_i32_180 : BitVec 32 := 4294967280#32
  let v287 : BitVec 32 := Scalar.andi v286 c_m16_i32_180
  let v288 : BitVec 32 := v287
  ![v290.toNat, 0, v288.toNat]

def k0_chk21 (i : grid0.Coords) (v286 : BitVec 32) : Prop :=
  (16 ∣ (k0_mult21 v286).toNat) ∧
  (∀ a, (k0_off22 i v286) a + S1x8x16.size a ≤ S128x8x100000.size a) ∧
  (∀ a, (k0_off54 i v286) a + S1x8x16.size a ≤ S128x8x100000.size a)
theorem k0_mult21_dvd : ∀ (i : grid0.Coords) (v286 : BitVec 32) (k0_hw21 : k0_chk21 i v286), 16 ∣ (k0_mult21 v286).toNat := fun i v286 k0_hw21 => k0_hw21.1
theorem k0_off22_inb : ∀ (i : grid0.Coords) (v286 : BitVec 32) (k0_hw21 : k0_chk21 i v286), ∀ a, (k0_off22 i v286) a + S1x8x16.size a ≤ S128x8x100000.size a := fun i v286 k0_hw21 => k0_hw21.2.1
theorem k0_off54_inb : ∀ (i : grid0.Coords) (v286 : BitVec 32) (k0_hw21 : k0_chk21 i v286), ∀ a, (k0_off54 i v286) a + S1x8x16.size a ≤ S128x8x100000.size a := fun i v286 k0_hw21 => k0_hw21.2.2

def k0_off55 (i : grid0.Coords) (v300 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_190 : BitVec 32 := 3#32
  let v303 : BitVec 32 := Scalar.shrsi v2 c3_i32_190
  let c2_i32_191 : BitVec 32 := 2#32
  let v304 : BitVec 32 := Scalar.addi v303 c2_i32_191
  let c0_i32_438 : BitVec 32 := 0#32
  let c_m16_i32_189 : BitVec 32 := 4294967280#32
  let v301 : BitVec 32 := Scalar.andi v300 c_m16_i32_189
  let v302 : BitVec 32 := v301
  ![v304.toNat, 0, v302.toNat]

def k0_chk22 (i : grid0.Coords) (v300 : BitVec 32) : Prop :=
  (16 ∣ (k0_mult22 v300).toNat) ∧
  (∀ a, (k0_off23 i v300) a + S1x8x16.size a ≤ S128x8x100000.size a) ∧
  (∀ a, (k0_off55 i v300) a + S1x8x16.size a ≤ S128x8x100000.size a)
theorem k0_mult22_dvd : ∀ (i : grid0.Coords) (v300 : BitVec 32) (k0_hw22 : k0_chk22 i v300), 16 ∣ (k0_mult22 v300).toNat := fun i v300 k0_hw22 => k0_hw22.1
theorem k0_off23_inb : ∀ (i : grid0.Coords) (v300 : BitVec 32) (k0_hw22 : k0_chk22 i v300), ∀ a, (k0_off23 i v300) a + S1x8x16.size a ≤ S128x8x100000.size a := fun i v300 k0_hw22 => k0_hw22.2.1
theorem k0_off55_inb : ∀ (i : grid0.Coords) (v300 : BitVec 32) (k0_hw22 : k0_chk22 i v300), ∀ a, (k0_off55 i v300) a + S1x8x16.size a ≤ S128x8x100000.size a := fun i v300 k0_hw22 => k0_hw22.2.2

def k0_off56 (i : grid0.Coords) (v314 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_199 : BitVec 32 := 3#32
  let v317 : BitVec 32 := Scalar.shrsi v2 c3_i32_199
  let c2_i32_200 : BitVec 32 := 2#32
  let v318 : BitVec 32 := Scalar.addi v317 c2_i32_200
  let c0_i32_445 : BitVec 32 := 0#32
  let c_m16_i32_198 : BitVec 32 := 4294967280#32
  let v315 : BitVec 32 := Scalar.andi v314 c_m16_i32_198
  let v316 : BitVec 32 := v315
  ![v318.toNat, 0, v316.toNat]

def k0_chk23 (i : grid0.Coords) (v314 : BitVec 32) : Prop :=
  (16 ∣ (k0_mult23 v314).toNat) ∧
  (∀ a, (k0_off24 i v314) a + S1x8x16.size a ≤ S128x8x100000.size a) ∧
  (∀ a, (k0_off56 i v314) a + S1x8x16.size a ≤ S128x8x100000.size a)
theorem k0_mult23_dvd : ∀ (i : grid0.Coords) (v314 : BitVec 32) (k0_hw23 : k0_chk23 i v314), 16 ∣ (k0_mult23 v314).toNat := fun i v314 k0_hw23 => k0_hw23.1
theorem k0_off24_inb : ∀ (i : grid0.Coords) (v314 : BitVec 32) (k0_hw23 : k0_chk23 i v314), ∀ a, (k0_off24 i v314) a + S1x8x16.size a ≤ S128x8x100000.size a := fun i v314 k0_hw23 => k0_hw23.2.1
theorem k0_off56_inb : ∀ (i : grid0.Coords) (v314 : BitVec 32) (k0_hw23 : k0_chk23 i v314), ∀ a, (k0_off56 i v314) a + S1x8x16.size a ≤ S128x8x100000.size a := fun i v314 k0_hw23 => k0_hw23.2.2

def k0_off57 (i : grid0.Coords) (v328 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_208 : BitVec 32 := 3#32
  let v331 : BitVec 32 := Scalar.shrsi v2 c3_i32_208
  let c2_i32_209 : BitVec 32 := 2#32
  let v332 : BitVec 32 := Scalar.addi v331 c2_i32_209
  let c0_i32_452 : BitVec 32 := 0#32
  let c_m16_i32_207 : BitVec 32 := 4294967280#32
  let v329 : BitVec 32 := Scalar.andi v328 c_m16_i32_207
  let v330 : BitVec 32 := v329
  ![v332.toNat, 0, v330.toNat]

def k0_chk24 (i : grid0.Coords) (v328 : BitVec 32) : Prop :=
  (16 ∣ (k0_mult24 v328).toNat) ∧
  (∀ a, (k0_off25 i v328) a + S1x8x16.size a ≤ S128x8x100000.size a) ∧
  (∀ a, (k0_off57 i v328) a + S1x8x16.size a ≤ S128x8x100000.size a)
theorem k0_mult24_dvd : ∀ (i : grid0.Coords) (v328 : BitVec 32) (k0_hw24 : k0_chk24 i v328), 16 ∣ (k0_mult24 v328).toNat := fun i v328 k0_hw24 => k0_hw24.1
theorem k0_off25_inb : ∀ (i : grid0.Coords) (v328 : BitVec 32) (k0_hw24 : k0_chk24 i v328), ∀ a, (k0_off25 i v328) a + S1x8x16.size a ≤ S128x8x100000.size a := fun i v328 k0_hw24 => k0_hw24.2.1
theorem k0_off57_inb : ∀ (i : grid0.Coords) (v328 : BitVec 32) (k0_hw24 : k0_chk24 i v328), ∀ a, (k0_off57 i v328) a + S1x8x16.size a ≤ S128x8x100000.size a := fun i v328 k0_hw24 => k0_hw24.2.2

def k0_off58 (i : grid0.Coords) (v342 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_217 : BitVec 32 := 3#32
  let v345 : BitVec 32 := Scalar.shrsi v2 c3_i32_217
  let c3_i32_218 : BitVec 32 := 3#32
  let v346 : BitVec 32 := Scalar.addi v345 c3_i32_218
  let c0_i32_459 : BitVec 32 := 0#32
  let c_m16_i32_216 : BitVec 32 := 4294967280#32
  let v343 : BitVec 32 := Scalar.andi v342 c_m16_i32_216
  let v344 : BitVec 32 := v343
  ![v346.toNat, 0, v344.toNat]

def k0_chk25 (i : grid0.Coords) (v342 : BitVec 32) : Prop :=
  (16 ∣ (k0_mult25 v342).toNat) ∧
  (∀ a, (k0_off26 i v342) a + S1x8x16.size a ≤ S128x8x100000.size a) ∧
  (∀ a, (k0_off58 i v342) a + S1x8x16.size a ≤ S128x8x100000.size a)
theorem k0_mult25_dvd : ∀ (i : grid0.Coords) (v342 : BitVec 32) (k0_hw25 : k0_chk25 i v342), 16 ∣ (k0_mult25 v342).toNat := fun i v342 k0_hw25 => k0_hw25.1
theorem k0_off26_inb : ∀ (i : grid0.Coords) (v342 : BitVec 32) (k0_hw25 : k0_chk25 i v342), ∀ a, (k0_off26 i v342) a + S1x8x16.size a ≤ S128x8x100000.size a := fun i v342 k0_hw25 => k0_hw25.2.1
theorem k0_off58_inb : ∀ (i : grid0.Coords) (v342 : BitVec 32) (k0_hw25 : k0_chk25 i v342), ∀ a, (k0_off58 i v342) a + S1x8x16.size a ≤ S128x8x100000.size a := fun i v342 k0_hw25 => k0_hw25.2.2

def k0_off59 (i : grid0.Coords) (v356 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_226 : BitVec 32 := 3#32
  let v359 : BitVec 32 := Scalar.shrsi v2 c3_i32_226
  let c3_i32_227 : BitVec 32 := 3#32
  let v360 : BitVec 32 := Scalar.addi v359 c3_i32_227
  let c0_i32_466 : BitVec 32 := 0#32
  let c_m16_i32_225 : BitVec 32 := 4294967280#32
  let v357 : BitVec 32 := Scalar.andi v356 c_m16_i32_225
  let v358 : BitVec 32 := v357
  ![v360.toNat, 0, v358.toNat]

def k0_chk26 (i : grid0.Coords) (v356 : BitVec 32) : Prop :=
  (16 ∣ (k0_mult26 v356).toNat) ∧
  (∀ a, (k0_off27 i v356) a + S1x8x16.size a ≤ S128x8x100000.size a) ∧
  (∀ a, (k0_off59 i v356) a + S1x8x16.size a ≤ S128x8x100000.size a)
theorem k0_mult26_dvd : ∀ (i : grid0.Coords) (v356 : BitVec 32) (k0_hw26 : k0_chk26 i v356), 16 ∣ (k0_mult26 v356).toNat := fun i v356 k0_hw26 => k0_hw26.1
theorem k0_off27_inb : ∀ (i : grid0.Coords) (v356 : BitVec 32) (k0_hw26 : k0_chk26 i v356), ∀ a, (k0_off27 i v356) a + S1x8x16.size a ≤ S128x8x100000.size a := fun i v356 k0_hw26 => k0_hw26.2.1
theorem k0_off59_inb : ∀ (i : grid0.Coords) (v356 : BitVec 32) (k0_hw26 : k0_chk26 i v356), ∀ a, (k0_off59 i v356) a + S1x8x16.size a ≤ S128x8x100000.size a := fun i v356 k0_hw26 => k0_hw26.2.2

def k0_off60 (i : grid0.Coords) (v370 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_235 : BitVec 32 := 3#32
  let v373 : BitVec 32 := Scalar.shrsi v2 c3_i32_235
  let c3_i32_236 : BitVec 32 := 3#32
  let v374 : BitVec 32 := Scalar.addi v373 c3_i32_236
  let c0_i32_473 : BitVec 32 := 0#32
  let c_m16_i32_234 : BitVec 32 := 4294967280#32
  let v371 : BitVec 32 := Scalar.andi v370 c_m16_i32_234
  let v372 : BitVec 32 := v371
  ![v374.toNat, 0, v372.toNat]

def k0_chk27 (i : grid0.Coords) (v370 : BitVec 32) : Prop :=
  (16 ∣ (k0_mult27 v370).toNat) ∧
  (∀ a, (k0_off28 i v370) a + S1x8x16.size a ≤ S128x8x100000.size a) ∧
  (∀ a, (k0_off60 i v370) a + S1x8x16.size a ≤ S128x8x100000.size a)
theorem k0_mult27_dvd : ∀ (i : grid0.Coords) (v370 : BitVec 32) (k0_hw27 : k0_chk27 i v370), 16 ∣ (k0_mult27 v370).toNat := fun i v370 k0_hw27 => k0_hw27.1
theorem k0_off28_inb : ∀ (i : grid0.Coords) (v370 : BitVec 32) (k0_hw27 : k0_chk27 i v370), ∀ a, (k0_off28 i v370) a + S1x8x16.size a ≤ S128x8x100000.size a := fun i v370 k0_hw27 => k0_hw27.2.1
theorem k0_off60_inb : ∀ (i : grid0.Coords) (v370 : BitVec 32) (k0_hw27 : k0_chk27 i v370), ∀ a, (k0_off60 i v370) a + S1x8x16.size a ≤ S128x8x100000.size a := fun i v370 k0_hw27 => k0_hw27.2.2

def k0_off61 (i : grid0.Coords) (v384 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_244 : BitVec 32 := 3#32
  let v387 : BitVec 32 := Scalar.shrsi v2 c3_i32_244
  let c3_i32_245 : BitVec 32 := 3#32
  let v388 : BitVec 32 := Scalar.addi v387 c3_i32_245
  let c0_i32_480 : BitVec 32 := 0#32
  let c_m16_i32_243 : BitVec 32 := 4294967280#32
  let v385 : BitVec 32 := Scalar.andi v384 c_m16_i32_243
  let v386 : BitVec 32 := v385
  ![v388.toNat, 0, v386.toNat]

def k0_chk28 (i : grid0.Coords) (v384 : BitVec 32) : Prop :=
  (16 ∣ (k0_mult28 v384).toNat) ∧
  (∀ a, (k0_off29 i v384) a + S1x8x16.size a ≤ S128x8x100000.size a) ∧
  (∀ a, (k0_off61 i v384) a + S1x8x16.size a ≤ S128x8x100000.size a)
theorem k0_mult28_dvd : ∀ (i : grid0.Coords) (v384 : BitVec 32) (k0_hw28 : k0_chk28 i v384), 16 ∣ (k0_mult28 v384).toNat := fun i v384 k0_hw28 => k0_hw28.1
theorem k0_off29_inb : ∀ (i : grid0.Coords) (v384 : BitVec 32) (k0_hw28 : k0_chk28 i v384), ∀ a, (k0_off29 i v384) a + S1x8x16.size a ≤ S128x8x100000.size a := fun i v384 k0_hw28 => k0_hw28.2.1
theorem k0_off61_inb : ∀ (i : grid0.Coords) (v384 : BitVec 32) (k0_hw28 : k0_chk28 i v384), ∀ a, (k0_off61 i v384) a + S1x8x16.size a ≤ S128x8x100000.size a := fun i v384 k0_hw28 => k0_hw28.2.2

def k0_off62 (i : grid0.Coords) (v398 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_253 : BitVec 32 := 3#32
  let v401 : BitVec 32 := Scalar.shrsi v2 c3_i32_253
  let c3_i32_254 : BitVec 32 := 3#32
  let v402 : BitVec 32 := Scalar.addi v401 c3_i32_254
  let c0_i32_487 : BitVec 32 := 0#32
  let c_m16_i32_252 : BitVec 32 := 4294967280#32
  let v399 : BitVec 32 := Scalar.andi v398 c_m16_i32_252
  let v400 : BitVec 32 := v399
  ![v402.toNat, 0, v400.toNat]

def k0_chk29 (i : grid0.Coords) (v398 : BitVec 32) : Prop :=
  (16 ∣ (k0_mult29 v398).toNat) ∧
  (∀ a, (k0_off30 i v398) a + S1x8x16.size a ≤ S128x8x100000.size a) ∧
  (∀ a, (k0_off62 i v398) a + S1x8x16.size a ≤ S128x8x100000.size a)
theorem k0_mult29_dvd : ∀ (i : grid0.Coords) (v398 : BitVec 32) (k0_hw29 : k0_chk29 i v398), 16 ∣ (k0_mult29 v398).toNat := fun i v398 k0_hw29 => k0_hw29.1
theorem k0_off30_inb : ∀ (i : grid0.Coords) (v398 : BitVec 32) (k0_hw29 : k0_chk29 i v398), ∀ a, (k0_off30 i v398) a + S1x8x16.size a ≤ S128x8x100000.size a := fun i v398 k0_hw29 => k0_hw29.2.1
theorem k0_off62_inb : ∀ (i : grid0.Coords) (v398 : BitVec 32) (k0_hw29 : k0_chk29 i v398), ∀ a, (k0_off62 i v398) a + S1x8x16.size a ≤ S128x8x100000.size a := fun i v398 k0_hw29 => k0_hw29.2.2

def k0_off63 (i : grid0.Coords) (v412 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_262 : BitVec 32 := 3#32
  let v415 : BitVec 32 := Scalar.shrsi v2 c3_i32_262
  let c3_i32_263 : BitVec 32 := 3#32
  let v416 : BitVec 32 := Scalar.addi v415 c3_i32_263
  let c0_i32_494 : BitVec 32 := 0#32
  let c_m16_i32_261 : BitVec 32 := 4294967280#32
  let v413 : BitVec 32 := Scalar.andi v412 c_m16_i32_261
  let v414 : BitVec 32 := v413
  ![v416.toNat, 0, v414.toNat]

def k0_chk30 (i : grid0.Coords) (v412 : BitVec 32) : Prop :=
  (16 ∣ (k0_mult30 v412).toNat) ∧
  (∀ a, (k0_off31 i v412) a + S1x8x16.size a ≤ S128x8x100000.size a) ∧
  (∀ a, (k0_off63 i v412) a + S1x8x16.size a ≤ S128x8x100000.size a)
theorem k0_mult30_dvd : ∀ (i : grid0.Coords) (v412 : BitVec 32) (k0_hw30 : k0_chk30 i v412), 16 ∣ (k0_mult30 v412).toNat := fun i v412 k0_hw30 => k0_hw30.1
theorem k0_off31_inb : ∀ (i : grid0.Coords) (v412 : BitVec 32) (k0_hw30 : k0_chk30 i v412), ∀ a, (k0_off31 i v412) a + S1x8x16.size a ≤ S128x8x100000.size a := fun i v412 k0_hw30 => k0_hw30.2.1
theorem k0_off63_inb : ∀ (i : grid0.Coords) (v412 : BitVec 32) (k0_hw30 : k0_chk30 i v412), ∀ a, (k0_off63 i v412) a + S1x8x16.size a ≤ S128x8x100000.size a := fun i v412 k0_hw30 => k0_hw30.2.2

def k0_off64 (i : grid0.Coords) (v426 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_271 : BitVec 32 := 3#32
  let v429 : BitVec 32 := Scalar.shrsi v2 c3_i32_271
  let c3_i32_272 : BitVec 32 := 3#32
  let v430 : BitVec 32 := Scalar.addi v429 c3_i32_272
  let c0_i32_501 : BitVec 32 := 0#32
  let c_m16_i32_270 : BitVec 32 := 4294967280#32
  let v427 : BitVec 32 := Scalar.andi v426 c_m16_i32_270
  let v428 : BitVec 32 := v427
  ![v430.toNat, 0, v428.toNat]

def k0_chk31 (i : grid0.Coords) (v426 : BitVec 32) : Prop :=
  (16 ∣ (k0_mult31 v426).toNat) ∧
  (∀ a, (k0_off32 i v426) a + S1x8x16.size a ≤ S128x8x100000.size a) ∧
  (∀ a, (k0_off64 i v426) a + S1x8x16.size a ≤ S128x8x100000.size a)
theorem k0_mult31_dvd : ∀ (i : grid0.Coords) (v426 : BitVec 32) (k0_hw31 : k0_chk31 i v426), 16 ∣ (k0_mult31 v426).toNat := fun i v426 k0_hw31 => k0_hw31.1
theorem k0_off32_inb : ∀ (i : grid0.Coords) (v426 : BitVec 32) (k0_hw31 : k0_chk31 i v426), ∀ a, (k0_off32 i v426) a + S1x8x16.size a ≤ S128x8x100000.size a := fun i v426 k0_hw31 => k0_hw31.2.1
theorem k0_off64_inb : ∀ (i : grid0.Coords) (v426 : BitVec 32) (k0_hw31 : k0_chk31 i v426), ∀ a, (k0_off64 i v426) a + S1x8x16.size a ≤ S128x8x100000.size a := fun i v426 k0_hw31 => k0_hw31.2.2

def k0_chk33 (v711 : IVec S16 32) (v713 : IVec S16 32) (v715 : IVec S16 32) : Prop :=
  (∀ a x, ((![v713, v715, v711] : Fin 3 → IVec S16 32) a x).toNat < S32x8x128.size a)
theorem k0_idx1_inb : ∀ (v711 : IVec S16 32) (v713 : IVec S16 32) (v715 : IVec S16 32) (k0_hw33 : k0_chk33 v711 v713 v715), ∀ a x, ((![v713, v715, v711] : Fin 3 → IVec S16 32) a x).toNat < S32x8x128.size a := fun v711 v713 v715 k0_hw33 => k0_hw33

def k0_chk34 (v719 : IVec S16 32) (v721 : IVec S16 32) (v723 : IVec S16 32) : Prop :=
  (∀ a x, ((![v721, v723, v719] : Fin 3 → IVec S16 32) a x).toNat < S32x8x128.size a)
theorem k0_idx2_inb : ∀ (v719 : IVec S16 32) (v721 : IVec S16 32) (v723 : IVec S16 32) (k0_hw34 : k0_chk34 v719 v721 v723), ∀ a x, ((![v721, v723, v719] : Fin 3 → IVec S16 32) a x).toNat < S32x8x128.size a := fun v719 v721 v723 k0_hw34 => k0_hw34
def k0_off65 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := .none

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x32x100000 : Shape := ⟨3, ![32, 32, 100000]⟩
abbrev S32x32 : Shape := ⟨2, ![32, 32]⟩
abbrev S1024x100000 : Shape := ⟨2, ![1024, 100000]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S32x32x100000, .f32⟩
  | .hbm, ⟨1, _⟩ => ⟨S32x32, .i32⟩
  | .hbm, ⟨2, _⟩ => ⟨S32x32, .f32⟩
  | .hbm, ⟨3, _⟩ => ⟨S1024x100000, .f32⟩
  | .hbm, ⟨4, _⟩ => ⟨S1024x1, .i32⟩
  | .hbm, ⟨5, _⟩ => ⟨S1024x1, .f32⟩
  | .hbm, ⟨6, _⟩ => ⟨S_, .i32⟩
  | .hbm, ⟨7, _⟩ => ⟨S1024x1, .i32⟩
  | .hbm, ⟨8, _⟩ => ⟨S1024x1, .i1⟩
  | .hbm, ⟨9, _⟩ => ⟨S_, .i32⟩
  | .hbm, ⟨10, _⟩ => ⟨S1024x1, .i32⟩
  | .hbm, ⟨11, _⟩ => ⟨S1024x1, .i32⟩
  | .hbm, ⟨12, _⟩ => ⟨S1024x1, .i32⟩
  | .hbm, ⟨13, _⟩ => ⟨S1024x1x1, .i32⟩
  | .hbm, ⟨14, _⟩ => ⟨S1, .i32⟩
  | .hbm, ⟨15, _⟩ => ⟨S_, .i32⟩
  | .hbm, ⟨16, _⟩ => ⟨S1024x1x1, .i32⟩
  | .hbm, ⟨17, _⟩ => ⟨S1024x1x1, .i1⟩
  | .hbm, ⟨18, _⟩ => ⟨S1x1x1, .i32⟩
  | .hbm, ⟨19, _⟩ => ⟨S1024x1x1, .i32⟩
  | .hbm, ⟨20, _⟩ => ⟨S1024x1x1, .i1⟩
  | .hbm, ⟨21, _⟩ => ⟨S1024x1x1, .i1⟩
  | .hbm, ⟨22, _⟩ => ⟨S_, .i1⟩
  | .hbm, ⟨23, _⟩ => ⟨S1024x1, .i1⟩
  | .hbm, ⟨24, _⟩ => ⟨S1024x1, .f32⟩
  | .hbm, ⟨25, _⟩ => ⟨S_, .f32⟩
  | .hbm, ⟨26, _⟩ => ⟨S1024x1, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S32x32x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Proof.Setup.lean ====
/-
  The gather-and-divide kernel as the SparseCore launch theorem sees it: the program's configuration, the resource
  algebra, the memrefs of a tile's body, and the arrays as locations of a device.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Batch
public import Idealize.ShloMosaic.Lib.Transfers
public import Idealize.ShloMosaic.Lib.Pipeline.Kit
public import Idealize.ShloMosaic.Lib.Pipeline.Regions
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program -/

/-- The program's labels, its SparseCore configuration, and its body table. -/
abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

/-- The logic's model over this algebra. -/
abbrev MM (F : FTy → Type) : Type := MT nD τ sig (HIx 1) (Elt F) ℕ UU ℕ

abbrev EH : Emb UH (MM F) := embL
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MM F)).LandsIn (upEmb : UEmb _ (MM F)) := by unfold EP; infer_instance

/-- The transfers' counters. -/
abbrev EC : UEmb Counters (MM F) := countersEmb (U := UU)

/-! ## The memrefs of a tile's body -/

abbrev pV : Memref sig .scVector .hbm S128x8x100000 .f32 := Memref.whole main_v0_scv
abbrev lV : Memref sig .scVector .hbm S1024 .i32 := Memref.whole main_v1_scv
abbrev oV : Memref sig .scVector .hbm S1024 .f32 := Memref.whole main_v2_scv
/-- A tile's scratch: its labels, its fetched boxes, its gathered values. -/
abbrev sL : Memref sig .scVector .vmem S32 .i32 := Memref.whole cc0_scratch0
abbrev sB : Memref sig .scVector .vmem S32x8x128 .f32 := Memref.whole cc0_scratch1
abbrev sG : Memref sig .scVector .vmem S32 .f32 := Memref.whole cc0_scratch2

/-- The arrays as locations of device `d`: the scores, the labels, the gathered values. -/
abbrev pLoc (d : Dev nD) : Loc nD τ sig := (SparseCore.T d).loc main_v0
abbrev lLoc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0
/-- The thread of the tile at grid point `L` of device `d`. -/
abbrev thr (d : Dev nD) (L : grid0.Coords) : Thread nD τ := V d (cV L) (jV L)

end Cert.Proof.Gather

end
-- ==== Proof.Boxes.lean ====
/-
  The boxes of the gather: which tile of the scores array each of a tile's 32 copies reads, which slot of the tile's
  scratch it fills, and the arithmetic of the labels' words behind both.
-/
module

public import proofs.«01_k».proof.Proof.Setup

@[expose] public section

noncomputable section

namespace Cert.Proof.Gather

open Cert.KernelIdeal Cert.KernelIdeal.Gen
open Idealize.ShloMosaic

variable {F : FTy → Type} [FloatOps F]

/-! ## Indices -/

/-- The element `n` of an array of 1024. -/
def ix1 (n : ℕ) (h : n < 1024) : S1024.Idx := fun a => ⟨n, by fin_cases a; exact h⟩

/-- Where the score of position `p` with label word `w` sits in the array of scores: position `p` is row `p % 8` of
    group `p / 8`. A word past the last column is read as if it wrapped around; no label of the problem is. -/
def scoreIx (p : S1024.Idx) (w : BitVec 32) : S128x8x100000.Idx
  | 0 => ⟨(p 0).val / 8, show (p 0).val / 8 < 128 by have : (p 0).val < 1024 := (p 0).isLt; omega⟩
  | 1 => ⟨(p 0).val % 8, show (p 0).val % 8 < 8 from Nat.mod_lt _ (by decide)⟩
  | 2 => ⟨w.toNat % 100000, show w.toNat % 100000 < 100000 from Nat.mod_lt _ (by decide)⟩
  | ⟨_ + 3, h⟩ => absurd h (Nat.not_lt.2 (Nat.le_add_left _ _))

/-- What the SparseCore call leaves: at each position the score its label names. -/
def gath (pv : Vec F S128x8x100000 .f32) (ml : IVec S1024 32) : Vec F S1024 .f32 := fun p => pv (scoreIx p (ml p))

/-! ## The tile -/

/-- The number of the tile at grid point `L` among the 32. -/
def wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

/-- The position of the tile's `j`-th label. -/
def labIx (L : grid0.Coords) (j : Fin 32) : S1024.Idx :=
  ix1 (wid L * 32 + j.val) (by have := wid_lt L; have := j.isLt; omega)

/-! ## Words -/

theorem and_high (v : BitVec 32) : (v &&& 4294967280#32).toNat = v.toNat / 16 * 16 := by
  rw [BitVec.toNat_and]
  apply Nat.eq_of_testBit_eq
  intro i
  have e : (4294967280#32 : BitVec 32).toNat = (2 ^ 28 - 1) * 2 ^ 4 := by decide
  rw [e, Nat.testBit_and, Nat.testBit_mul_two_pow, show v.toNat / 16 * 16 = v.toNat / 2 ^ 4 * 2 ^ 4 from rfl, Nat.testBit_mul_two_pow,
    Nat.testBit_two_pow_sub_one, Nat.testBit_div_two_pow]
  by_cases h4 : 4 ≤ i
  · by_cases h32 : i < 32
    · simp [h4, show i - 4 + 4 = i by omega, show i - 4 < 28 by omega]
    · have : v.toNat.testBit i = false := Nat.testBit_lt_two_pow (lt_of_lt_of_le v.isLt (Nat.pow_le_pow_right (by decide) (by omega)))
      simp [this, show i - 4 + 4 = i by omega]
  · simp [h4]

theorem and_low (v : BitVec 32) : (v &&& 15#32).toNat = v.toNat % 16 := by
  rw [BitVec.toNat_and]; exact Nat.and_two_pow_sub_one_eq_mod v.toNat 4

theorem andi_high (v : BitVec 32) : (Scalar.andi v 4294967280#32).toNat = v.toNat / 16 * 16 := and_high v

/-- The row of groups a tile's copies with offset `g` read, as the kernel computes it. -/
def groupW (L : grid0.Coords) (g : BitVec 32) : BitVec 32 :=
  Scalar.addi (Scalar.shrsi (Scalar.muli (Scalar.addi (Scalar.muli (BitVec.ofNat 32 (L 1).val) 2#32) (BitVec.ofNat 32 (L 0).val)) 32#32) 3#32) g

theorem groupW_toNat_fin : ∀ (a : Fin 2) (b : Fin 16) (g : Fin 4),
    (Scalar.addi (Scalar.shrsi (Scalar.muli (Scalar.addi (Scalar.muli (BitVec.ofNat 32 b.val) 2#32) (BitVec.ofNat 32 a.val)) 32#32) 3#32) (BitVec.ofNat 32 g.val)).toNat
      = (b.val * 2 + a.val) * 4 + g.val := by decide +kernel

theorem groupW_toNat (L : grid0.Coords) (g : BitVec 32) (hg : g.toNat < 4) : (groupW L g).toNat = wid L * 4 + g.toNat := by
  have h := groupW_toNat_fin (L 0) (L 1) ⟨g.toNat, hg⟩
  simp only [BitVec.ofNat_toNat, BitVec.setWidth_eq] at h
  exact h

/-- The offsets of the box the copy with group offset `g` and label word `v` reads, as the kernel computes them. -/
def boxOff (L : grid0.Coords) (g v : BitVec 32) : Fin 3 → ℕ := ![(groupW L g).toNat, (0#32 : BitVec 32).toNat, (Scalar.andi v 4294967280#32).toNat]

theorem boxOff_inb (L : grid0.Coords) (g v : BitVec 32) (hg : g.toNat < 4) (hv : v.toNat < 100000) :
    ∀ a, boxOff L g v a + S1x8x16.size a ≤ S128x8x100000.size a := by
  have h0 := groupW_toNat L g hg
  have h2 := andi_high v
  have hw := wid_lt L
  intro a
  fin_cases a
  · show (groupW L g).toNat + 1 ≤ 128
    omega
  · show 0 + 8 ≤ 8
    omega
  · show (Scalar.andi v 4294967280#32).toNat + 16 ≤ 100000
    omega

/-- What each copy's side condition says, for every copy. -/
theorem box_ok (L : grid0.Coords) {g v : BitVec 32} (hg : g.toNat < 4) (hv : v.toNat < 100000) :
    16 ∣ (Scalar.andi v 4294967280#32).toNat ∧ (∀ a, boxOff L g v a + S1x8x16.size a ≤ S128x8x100000.size a)
      ∧ (∀ a, boxOff L g v a + S1x8x16.size a ≤ S128x8x100000.size a) :=
  ⟨by rw [andi_high]; exact Nat.dvd_mul_left 16 _, boxOff_inb L g v hg hv, boxOff_inb L g v hg hv⟩

/-! ## The memrefs of one copy -/

theorem slot_inb (j : ℕ) (hj : j < 32) : ∀ a, (![j, 0, 0] : Fin 3 → ℕ) a + S1x8x16.size a ≤ S32x8x128.size a := by
  intro a
  fin_cases a
  · show j + 1 ≤ 32
    omega
  · show 0 + 8 ≤ 8
    omega
  · show 0 + 16 ≤ 128
    omega

/-- A copy's source: a box of 8 rows and 16 columns of one group. -/
abbrev srcM (off : Fin 3 → ℕ) (h : ∀ a, off a + S1x8x16.size a ≤ S128x8x100000.size a) : Memref sig .scVector .hbm S8x16 .f32 :=
  (pV.slice (Rect.unit (s := S128x8x100000) off S1x8x16.size h) (fun _ => rfl)).squeeze S8x16 squeezes_S1x8x16_S8x16

/-- A copy's destination: the first 16 columns of one slot. -/
abbrev dstM (off : Fin 3 → ℕ) (h : ∀ a, off a + S1x8x16.size a ≤ S32x8x128.size a) : Memref sig .scVector .vmem S8x16 .f32 :=
  (sB.slice (Rect.unit (s := S32x8x128) off S1x8x16.size h) (fun _ => rfl)).squeeze S8x16 squeezes_S1x8x16_S8x16

theorem unsqueeze (x : S8x16.Idx) :
    Shape.reshapeEquiv (s := S1x8x16) (s' := S8x16) squeezes_S1x8x16_S8x16.numel_eq x = Fin.cons ⟨0, Nat.one_pos⟩ x :=
  Shape.reshapeEquiv_cons_one (n := 2) (d := ![8, 16]) _ x

theorem srcM_emb (off : Fin 3 → ℕ) (h) (x : S8x16.Idx) (a : Fin 3) :
    ((srcM off h).view.emb x a).val = off a + ((Fin.cons ⟨0, Nat.one_pos⟩ x : S1x8x16.Idx) a).val := by
  show ((Rect.unit (s := S128x8x100000) off S1x8x16.size h).emb (Shape.reshapeEquiv (s := S1x8x16) (s' := S8x16) squeezes_S1x8x16_S8x16.numel_eq x) a).val = _
  rw [unsqueeze, Rect.emb_apply]
  show off a + 1 * _ = _
  rw [one_mul]

theorem dstM_emb (off : Fin 3 → ℕ) (h) (x : S8x16.Idx) (a : Fin 3) :
    ((dstM off h).view.emb x a).val = off a + ((Fin.cons ⟨0, Nat.one_pos⟩ x : S1x8x16.Idx) a).val := by
  show ((Rect.unit (s := S32x8x128) off S1x8x16.size h).emb (Shape.reshapeEquiv (s := S1x8x16) (s' := S8x16) squeezes_S1x8x16_S8x16.numel_eq x) a).val = _
  rw [unsqueeze, Rect.emb_apply]
  show off a + 1 * _ = _
  rw [one_mul]

/-- The slots of two copies share no element. -/
theorem slots_disjoint {i j : Fin 32} (h : i ≠ j) :
    Disjoint (dstM ![i.val, 0, 0] (slot_inb i.val i.isLt)).view.set (dstM ![j.val, 0, 0] (slot_inb j.val j.isLt)).view.set := by
  rw [Finset.disjoint_left]
  intro y hi hj
  obtain ⟨x, -, rfl⟩ := Finset.mem_map.mp hi
  obtain ⟨x', -, e⟩ := Finset.mem_map.mp hj
  have e0 := congrArg (fun y : S32x8x128.Idx => (y 0).val) e
  dsimp only at e0
  rw [dstM_emb, dstM_emb] at e0
  exact h (Fin.ext (show i.val + 0 = j.val + 0 from e0.symm))

/-- The element `(r, l)` of a copy's view. -/
def boxIx (r l : ℕ) (hr : r < 8) (hl : l < 16) : S8x16.Idx
  | 0 => ⟨r, hr⟩
  | 1 => ⟨l, hl⟩
  | ⟨_ + 2, h⟩ => absurd h (Nat.not_lt.2 (Nat.le_add_left _ _))

/-- The element of slot `t` at row `t % 8` and column `v % 16` is the score the label word `v` of position `t` names: the
    copy brings it there from the score's own place. -/
theorem box_value (L : grid0.Coords) (t : Fin 32) {g v : BitVec 32} (hg : g.toNat = t.val / 8) (hv : v.toNat < 100000) (h)
    (y : S32x8x128.Idx) (h0 : (y 0).val = t.val) (h1 : (y 1).val = t.val % 8) (h2 : (y 2).val = v.toNat % 16) :
    ∃ x : S8x16.Idx, (dstM ![t.val, 0, 0] (slot_inb t.val t.isLt)).view.emb x = y
      ∧ (srcM (boxOff L g v) h).view.emb x = scoreIx (labIx L t) v := by
  have hw := wid_lt L
  have ht := t.isLt
  have hgw := groupW_toNat L g (by omega)
  have hhi := andi_high v
  refine ⟨boxIx (t.val % 8) (v.toNat % 16) (Nat.mod_lt _ (by decide)) (Nat.mod_lt _ (by decide)), funext fun a => Fin.ext ?_, funext fun a => Fin.ext ?_⟩
  · refine (dstM_emb _ _ _ a).trans ?_
    fin_cases a
    · show t.val + 0 = (y 0).val
      omega
    · show 0 + t.val % 8 = (y 1).val
      omega
    · show 0 + v.toNat % 16 = (y 2).val
      omega
  · refine (srcM_emb _ _ _ a).trans ?_
    fin_cases a
    · show (groupW L g).toNat + 0 = (wid L * 32 + t.val) / 8
      omega
    · show 0 + t.val % 8 = (wid L * 32 + t.val) % 8
      omega
    · show (Scalar.andi v 4294967280#32).toNat + v.toNat % 16 = v.toNat % 100000
      omega

end Cert.Proof.Gather

end
-- ==== Proof.Copies.lean ====
/-
  The 32 copies a tile keeps in flight on one semaphore: what each is given and delivers, the step that issues one, and the
  steps that wait for one. Nothing of a copy's source or destination is in hand between its issue and the last wait.
-/
module

public import proofs.«01_k».proof.Proof.Boxes

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The label words of a tile, each naming a column of the scores. -/
structure Labs where
  word : Fin 32 → BitVec 32
  lt : ∀ t, (word t).toNat < 100000

/-- The group offset of copy `t`: eight labels to a group. -/
def grp (t : Fin 32) : BitVec 32 := BitVec.ofNat 32 (t.val / 8)

theorem grp_toNat (t : Fin 32) : (grp t).toNat = t.val / 8 := by
  have := t.isLt
  unfold grp; rw [BitVec.toNat_ofNat]; omega

theorem grp_lt (t : Fin 32) : (grp t).toNat < 4 := by have := t.isLt; rw [grp_toNat]; omega

variable (d : Dev nD) (L : grid0.Coords) (lab : Labs)

/-- Copy `t`'s source and destination. -/
abbrev srcOf (t : Fin 32) : Memref sig .scVector .hbm S8x16 .f32 :=
  srcM (boxOff L (grp t) (lab.word t)) (boxOff_inb L _ _ (grp_lt t) (lab.lt t))
abbrev dstOf (t : Fin 32) : Memref sig .scVector .vmem S8x16 .f32 := dstM ![t.val, 0, 0] (slot_inb t.val t.isLt)

variable (qs : Fin 32 → PosShare TreeShare) (pv : Buf (Elt F) (pV.view.loc (thr d L))) (fb : Buf (Elt F) (sB.view.loc (thr d L)))

/-- A read share of copy `t`'s box, and its slot. -/
def SrcP (t : Fin 32) : sProp 𝕄 := (srcOf L lab t).view.loc (thr d L) ↦[(srcOf L lab t).view.set]{qs t} pv
def SlotP (f : Buf (Elt F) (sB.view.loc (thr d L))) (t : Fin 32) : sProp 𝕄 := (dstOf t).view.loc (thr d L) ↦[(dstOf t).view.set]{fullShare} f

/-- The scratch as copy `t` leaves it: its slot holds its box. -/
def landed (t : Fin 32) : Buf (Elt F) (sB.view.loc (thr d L)) :=
  (dstOf t).view.write (Elt F) fb ((srcOf L lab t).view.read (Elt F) pv) Finset.univ

/-- What copy `t` delivers. -/
def Dlv (t : Fin 32) : sProp 𝕄 := iprop(SlotP d L (landed d L lab pv fb t) t ∗ SrcP d L lab qs pv t)

instance Dlv_storable (t : Fin 32) : Storable (upEmb : UEmb _ 𝕄) (Dlv d L lab qs pv fb t) := by
  unfold Dlv SlotP SrcP; infer_instance

/-- What one copy credits its semaphore by. -/
def NB : ℕ := (dstM ![0, 0, 0] (slot_inb 0 (by decide))).view.dmaCredit
theorem NB_eq (off : Fin 3 → ℕ) (h) : (dstM off h).view.dmaCredit = NB := rfl
theorem NB_pos : 0 < NB := View.dmaCredit_pos _ (by decide)

/-- The copies from `j` on still to issue: their boxes and slots, and the batch with `j` issued. -/
def Issue (j : ℕ) : sProp 𝕄 :=
  iprop((bigSep (Transfers.pending j) fun t : Fin 32 => iprop(SrcP d L lab qs pv t ∗ SlotP d L fb t))
    ∗ Transfers.Batch EC (thr d L) (.dma cc0_scratch3.sem) (none : HIx 1) NB (Dlv d L lab qs pv fb) j 0)

variable {α : Type}

theorem issue_pays (t : Fin 32) :
    iprop(((dstOf t).view.loc (thr d L) ↦[(dstOf t).view.set]{fullShare} ((dstOf t).view.write (Elt F) fb
        ((ReadAs.same : ReadAs (Elt F) S8x16 .f32 S8x16 .f32).apply ((srcOf L lab t).view.read (Elt F) pv)) Finset.univ))
      ∗ ((srcOf L lab t).view.loc (thr d L) ↦[(srcOf L lab t).view.set]{qs t} pv)) ⊢ Dlv d L lab qs pv fb t := Entails.of_eq rfl

/-- Issuing copy `j`. -/
theorem issue_step (j : ℕ) (hj : j < 32) {off : Fin 3 → ℕ} {h} {off' : Fin 3 → ℕ} {h'}
    (e : off = boxOff L (grp ⟨j, hj⟩) (lab.word ⟨j, hj⟩)) (e' : off' = ![j, 0, 0])
    {hs : (srcM off h).view.WordExact} {hd : (dstM off' h').view.WordExact}
    {ht : DmaTarget.Typed (nD := nD) (τ := τ) (p := (thr d L).2) .hbm (.dma cc0_scratch3.sem) (.here (dstM off' h'))}
    {k : PUnit → Prog (TpuEff nD τ sig (Elt F) Λ₀ (thr d L).2) α} (Q : α → sProp 𝕄) :
    Issue d L lab qs pv fb j
      ⊢ iprop((Issue d L lab qs pv fb (j + 1) -∗ wp frame (wpE (defs₀ (F := F)) 𝒱₀ (thr d L) none) Set.univ (k ⟨⟩) Q)
          -∗ wp frame (wpE (defs₀ (F := F)) 𝒱₀ (thr d L) none) Set.univ
            (.op (.enqueueDma (srcM off h) (.here (dstM off' h')) (.dma cc0_scratch3.sem) hs hd ht) k) Q) := by
  subst e e'
  unfold Issue
  rw [Transfers.bigSep_pending_step _ j hj]
  iintro ⟨⟨⟨Hs, Hd⟩, Hrest⟩, HB⟩ Hk
  unfold SrcP SlotP
  iapply (Transfers.wp_dmaBatch EC 𝒱₀ (thr d L) none (none : HIx 1) NB (sm := .dma cc0_scratch3.sem) (src := srcOf L lab ⟨j, hj⟩) (dst := dstOf ⟨j, hj⟩) (q := qs ⟨j, hj⟩) (fs := pv) (fd := fb)
    (Sd := (dstOf ⟨j, hj⟩).view.set) (D := Dlv d L lab qs pv fb) (NB_eq _ _) (Finset.Subset.refl _) hj (Nat.zero_le _) (issue_pays d L lab qs pv fb ⟨j, hj⟩)) $$ [Hs Hd HB]
  · isplitl [Hs]; · iexact Hs
    isplitl [Hd]; · iexact Hd
    iexact HB
  iintro HB
  iapply Hk
  isplitl [Hrest]; · iexact Hrest
  iexact HB

/-- The copies all issued and `j` of their waits past: the batch, and what the tile has waited on beyond `W`. -/
def Waiting (O : CellTallies nD τ sig (HIx 1)) (W : Waits sig (HIx 1)) (j : ℕ) : sProp 𝕄 :=
  iprop(Transfers.Batch EC (thr d L) (.dma cc0_scratch3.sem) (none : HIx 1) NB (Dlv d L lab qs pv fb) 32 (j * NB)
    ∗ ∃ W', ⌜∀ p ∈ W', p ∈ W ∨ p.2 = none⌝ ∗ owes (thr d L) O W')

/-- A wait that is not the last. -/
theorem wait_step {O : CellTallies nD τ sig (HIx 1)} {W : Waits sig (HIx 1)} (hO : ∀ g, O g none = 0) (j : ℕ) (hj : j + 1 < 32)
    {off : Fin 3 → ℕ} {h} {off' : Fin 3 → ℕ} {h'} {hs : (srcM off h).view.WordExact} {hd : (dstM off' h').view.WordExact}
    {k : PUnit → Prog (TpuEff nD τ sig (Elt F) Λ₀ (thr d L).2) α} (Q : α → sProp 𝕄) :
    iprop(levAts (K (F := F)).L (K (F := F)).lev ∗ Waiting d L lab qs pv fb O W j)
      ⊢ iprop((Waiting d L lab qs pv fb O W (j + 1) -∗ wp frame (wpE (defs₀ (F := F)) 𝒱₀ (thr d L) none) Set.univ (k ⟨⟩) Q)
          -∗ wp frame (wpE (defs₀ (F := F)) 𝒱₀ (thr d L) none) Set.univ
            (.op (.waitDma2 cc0_scratch3.sem (srcM off h) (dstM off' h') hs hd) k) Q) := by
  have hu : j * NB + NB < NB * 32 := by
    have := Nat.mul_lt_mul_of_pos_right hj NB_pos
    rw [Nat.add_mul, Nat.one_mul] at this; omega
  unfold Waiting
  iintro ⟨#Hlv, HB, %W', %hW', HO⟩ Hk
  iapply (Transfers.wp_waitBatchO EC 𝒱₀ (thr d L) none (none : HIx 1) (N := NB) (NB_eq _ _) (D := Dlv d L lab qs pv fb) (u := j * NB)
    hu (O := O) (W := W')) $$ [HB HO]
  · isplitl [HB]; · iexact HB
    isplitl [HO]; · iexact HO
    iapply ((K (F := F)).mayWait_none (SemLoc.dma cc0_scratch3.sem) hO); iexact Hlv
  iintro ⟨HB, HO⟩
  iapply Hk
  rw [show (j + 1) * NB = j * NB + NB by rw [Nat.add_mul, Nat.one_mul]]
  isplitl [HB]; · iexact HB
  iexists _; isplitr
  rotate_left
  · iexact HO
  · ipureintro; intro p hp
    rcases Finset.mem_insert.mp hp with rfl | hp
    · exact .inr rfl
    · exact hW' p hp

/-- The last wait hands every delivery back. -/
theorem wait_last {O : CellTallies nD τ sig (HIx 1)} {W : Waits sig (HIx 1)} (hO : ∀ g, O g none = 0)
    {off : Fin 3 → ℕ} {h} {off' : Fin 3 → ℕ} {h'} {hs : (srcM off h).view.WordExact} {hd : (dstM off' h').view.WordExact}
    {k : PUnit → Prog (TpuEff nD τ sig (Elt F) Λ₀ (thr d L).2) α} (Q : α → sProp 𝕄) :
    iprop(levAts (K (F := F)).L (K (F := F)).lev ∗ Waiting d L lab qs pv fb O W 31)
      ⊢ iprop((((bigSep Finset.univ (Dlv d L lab qs pv fb)) ∗ semVal (thr d L, SemLoc.dma cc0_scratch3.sem) 0
              ∗ ∃ W', ⌜∀ p ∈ W', p ∈ W ∨ p.2 = none⌝ ∗ owes (thr d L) O W')
            -∗ wp frame (wpE (defs₀ (F := F)) 𝒱₀ (thr d L) none) Set.univ (k ⟨⟩) Q)
          -∗ wp frame (wpE (defs₀ (F := F)) 𝒱₀ (thr d L) none) Set.univ
            (.op (.waitDma2 cc0_scratch3.sem (srcM off h) (dstM off' h') hs hd) k) Q) := by
  have hu : 31 * NB + NB = NB * 32 := by omega
  unfold Waiting
  iintro ⟨#Hlv, HB, %W', %hW', HO⟩ Hk
  iapply (Transfers.wp_waitBatchLastO EC 𝒱₀ (thr d L) none (none : HIx 1) (N := NB) (NB_eq _ _) NB_pos (D := Dlv d L lab qs pv fb) (u := 31 * NB)
    hu (O := O) (W := W')) $$ [HB HO]
  · isplitl [HB]; · iexact HB
    isplitl [HO]; · iexact HO
    iapply ((K (F := F)).mayWait_none (SemLoc.dma cc0_scratch3.sem) hO); iexact Hlv
  iintro ⟨HD, Hsem, HO⟩
  iapply Hk
  isplitl [HD]; · iexact HD
  isplitl [Hsem]; · iexact Hsem
  iexists _; isplitr
  rotate_left
  · iexact HO
  · ipureintro; intro p hp
    rcases Finset.mem_insert.mp hp with rfl | hp
    · exact .inr rfl
    · exact hW' p hp

end Cert.Proof.Gather

end
-- ==== Proof.Carve.lean ====
/-
  What a tile holds, taken apart for its copies and put together after them: a read share of the scores as 32 shares of 32
  boxes, its scratch as 32 slots; and one copy issued and at once waited for.
-/
module

public import proofs.«01_k».proof.Proof.Copies

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords) (lab : Labs)
variable (pv : Buf (Elt F) (pV.view.loc (thr d L)))

/-- The share of the scores copy `t` reads with. -/
abbrev shareOf (q : PosShare TreeShare) (t : Fin 32) : PosShare TreeShare := Transfers.dealOf q Finset.univ t

/-- A read share of the scores is a share of every copy's box, and comes back when they do. -/
theorem carve_src (q : PosShare TreeShare) :
    ((pV.view.loc (thr d L) ↦{q} pv) : sProp 𝕄)
      ⊢ iprop((bigSep Finset.univ fun t => SrcP d L lab (shareOf q) pv t)
          ∗ ((bigSep Finset.univ fun t => SrcP d L lab (shareOf q) pv t) -∗ (pV.view.loc (thr d L) ↦{q} pv))) := by
  have hsplit (t : Fin 32) : ((pV.view.loc (thr d L) ↦[Finset.univ]{shareOf q t} pv) : sProp 𝕄)
      ⊣⊢ iprop(SrcP d L lab (shareOf q) pv t ∗ (pV.view.loc (thr d L) ↦[Finset.univ \ (srcOf L lab t).view.set]{shareOf q t} pv)) :=
    pointsTo_split_subset (Finset.subset_univ _)
  have hall : ((pV.view.loc (thr d L) ↦{q} pv) : sProp 𝕄)
      = iprop((bigSep Finset.univ fun t => SrcP d L lab (shareOf q) pv t)
          ∗ bigSep Finset.univ fun t => (pV.view.loc (thr d L) ↦[Finset.univ \ (srcOf L lab t).view.set]{shareOf q t} pv)) := by
    rw [Transfers.pointsTo_deal (Finset.univ : Finset (Fin 32)) Finset.univ_nonempty q]
    exact (BI.bigSep_congr fun t _ => BI.equiv_iff.mp ⟨(hsplit t).1, (hsplit t).2⟩).trans (BI.bigSep_sep _ _ _)
  rw [hall]
  iintro ⟨H, R⟩
  isplitl [H]; · iexact H
  iintro H
  isplitl [H] <;> iassumption

/-- The elements of copy `t`'s slot, and of all the slots. -/
def slotSet (t : Fin 32) : Finset (Idx (sB.view.loc (thr d L))) := (dstOf t).view.set
def slotsAll : Finset (Idx (sB.view.loc (thr d L))) := Finset.univ.biUnion (slotSet d L)

/-- The tile's scratch is its 32 slots and the rest, and comes back at contents that agree with each slot's on it. -/
theorem carve_slots (fb : Buf (Elt F) (sB.view.loc (thr d L))) (fs : Fin 32 → Buf (Elt F) (sB.view.loc (thr d L))) :
    ((sB.view.loc (thr d L) ↦{fullShare} fb) : sProp 𝕄)
      ⊢ iprop((bigSep Finset.univ fun t => SlotP d L fb t)
          ∗ ((bigSep Finset.univ fun t => SlotP d L (fs t) t)
            -∗ ∃ g, ⌜∀ (t : Fin 32) (i : Idx (sB.view.loc (thr d L))), i ∈ slotSet d L t → g i = fs t i⌝ ∗ (sB.view.loc (thr d L) ↦{fullShare} g))) := by
  have hd : ∀ t ∈ (Finset.univ : Finset (Fin 32)), ∀ t' ∈ (Finset.univ : Finset (Fin 32)), t ≠ t' →
      Disjoint (slotSet d L t) (slotSet d L t') := fun _ _ _ _ h => slots_disjoint h
  have hsplit : ((sB.view.loc (thr d L) ↦{fullShare} fb) : sProp 𝕄)
      ⊣⊢ iprop((sB.view.loc (thr d L) ↦[slotsAll d L]{fullShare} fb)
        ∗ (sB.view.loc (thr d L) ↦[Finset.univ \ slotsAll d L]{fullShare} fb)) :=
    pointsTo_split_subset (Finset.subset_univ _)
  have hslots : ((sB.view.loc (thr d L) ↦[slotsAll d L]{fullShare} fb) : sProp 𝕄)
      = bigSep Finset.univ fun t => SlotP d L fb t :=
    pointsTo_biUnion Finset.univ (slotSet d L) hd
  refine hsplit.1.trans ?_
  rw [hslots]
  iintro ⟨H, R⟩
  isplitl [H]; · iexact H
  iintro H
  have hjoin : (bigSep Finset.univ fun t => SlotP d L (fs t) t)
      ⊢ (iprop(∃ g, ⌜∀ t ∈ (Finset.univ : Finset (Fin 32)), ∀ i ∈ slotSet d L t, g i = fs t i⌝
        ∗ (sB.view.loc (thr d L) ↦[slotsAll d L]{fullShare} g)) : sProp 𝕄) :=
    pointsTo_biUnion_join Finset.univ (slotSet d L) fs fb hd
  ihave H' := hjoin $$ H
  icases H' with ⟨%g, %hg, H⟩
  have hback : iprop((sB.view.loc (thr d L) ↦[slotsAll d L]{fullShare} g)
        ∗ (sB.view.loc (thr d L) ↦[Finset.univ \ slotsAll d L]{fullShare} fb))
      ⊢ ((sB.view.loc (thr d L) ↦{fullShare} ((slotsAll d L).piecewise g fb)) : sProp 𝕄) :=
    pointsTo_join_subset (Finset.subset_univ _)
  iexists _; isplitr
  rotate_left
  · iapply hback
    isplitl [H] <;> iassumption
  · ipureintro
    intro t i hi
    exact (Finset.piecewise_eq_of_mem _ _ _ (Finset.mem_biUnion.mpr ⟨t, Finset.mem_univ _, hi⟩)).trans (hg t (Finset.mem_univ _) i hi)

/-! ## One copy and its wait -/

variable {α : Type}

/-- What the tile owes, and has waited on beyond `W`. -/
def Owing (O : CellTallies nD τ sig (HIx 1)) (W : Waits sig (HIx 1)) : sProp 𝕄 :=
  iprop(∃ W', ⌜∀ p ∈ W', p ∈ W ∨ p.2 = none⌝ ∗ owes (thr d L) O W')

/-- What one copy delivers: its destination written, its source's share back. -/
def CopyD {sp sp' : Space} {s : Shape} {e : EltTy} (src : Memref sig (thr d L).2.kind sp s e) (dst : Memref sig (thr d L).2.kind sp' s e)
    (q : PosShare TreeShare) (fs : Buf (Elt F) (src.view.loc (thr d L))) (fd : Buf (Elt F) (dst.view.loc (thr d L))) (_ : Fin 1) : sProp 𝕄 :=
  iprop((dst.view.loc (thr d L) ↦[dst.view.set]{fullShare} dst.view.write (Elt F) fd (src.view.read (Elt F) fs) Finset.univ)
    ∗ (src.view.loc (thr d L) ↦[src.view.set]{q} fs))

instance CopyD_storable {sp sp' : Space} {s : Shape} {e : EltTy} (src : Memref sig (thr d L).2.kind sp s e) (dst : Memref sig (thr d L).2.kind sp' s e)
    (q : PosShare TreeShare) (fs : Buf (Elt F) (src.view.loc (thr d L))) (fd : Buf (Elt F) (dst.view.loc (thr d L))) (t : Fin 1) :
    Storable (upEmb : UEmb _ 𝕄) (CopyD d L src dst q fs fd t) := by
  unfold CopyD; infer_instance

theorem CopyD_all {sp sp' : Space} {s : Shape} {e : EltTy} (src : Memref sig (thr d L).2.kind sp s e) (dst : Memref sig (thr d L).2.kind sp' s e)
    (q : PosShare TreeShare) (fs : Buf (Elt F) (src.view.loc (thr d L))) (fd : Buf (Elt F) (dst.view.loc (thr d L))) :
    bigSep Finset.univ (CopyD d L src dst q fs fd) ⊢ iprop((dst.view.loc (thr d L) ↦[dst.view.set]{fullShare} dst.view.write (Elt F) fd (src.view.read (Elt F) fs) Finset.univ)
    ∗ (src.view.loc (thr d L) ↦[src.view.set]{q} fs)) := by
  rw [Transfers.bigSep_pending_zero, Transfers.bigSep_pending_last (n := 1) _ 0 Nat.one_pos rfl]
  exact Entails.of_eq rfl

theorem CopyD_one {sp sp' : Space} {s : Shape} {e : EltTy} (src : Memref sig (thr d L).2.kind sp s e) (dst : Memref sig (thr d L).2.kind sp' s e)
    (q : PosShare TreeShare) (fs : Buf (Elt F) (src.view.loc (thr d L))) (fd : Buf (Elt F) (dst.view.loc (thr d L))) (h : 0 < 1) :
    iprop((dst.view.loc (thr d L) ↦[dst.view.set]{fullShare} dst.view.write (Elt F) fd ((ReadAs.same : ReadAs (Elt F) s e s e).apply (src.view.read (Elt F) fs)) Finset.univ)
    ∗ (src.view.loc (thr d L) ↦[src.view.set]{q} fs)) ⊢ CopyD d L src dst q fs fd ⟨0, h⟩ := Entails.of_eq rfl

/-- A copy issued on a semaphore at zero and waited for at once: the destination holds what the source reads. -/
theorem copy_wait {O : CellTallies nD τ sig (HIx 1)} {W : Waits sig (HIx 1)} (hO : ∀ g, O g none = 0)
    {sp sp' : Space} {s : Shape} {e : EltTy} {src : Memref sig (thr d L).2.kind sp s e} {dst : Memref sig (thr d L).2.kind sp' s e} {sem : DmaSem sig}
    {N : ℕ} (hN : dst.view.dmaCredit = N) (hpos : 0 < N)
    {hs hs' : src.view.WordExact} {hd hd' : dst.view.WordExact}
    {ht : DmaTarget.Typed (nD := nD) sp (.dma sem) (.here dst)}
    {q : PosShare TreeShare} {fs : Buf (Elt F) (src.view.loc (thr d L))} {fd : Buf (Elt F) (dst.view.loc (thr d L))}
    {k : PUnit → Prog (TpuEff nD τ sig (Elt F) Λ₀ (thr d L).2) α} (Q : α → sProp 𝕄) :
    iprop(levAts (K (F := F)).L (K (F := F)).lev ∗ semVal (thr d L, SemLoc.dma sem) 0
        ∗ (src.view.loc (thr d L) ↦[src.view.set]{q} fs) ∗ (dst.view.loc (thr d L) ↦[dst.view.set]{fullShare} fd) ∗ Owing d L O W)
      ⊢ iprop(((semVal (thr d L, SemLoc.dma sem) 0 ∗ ((dst.view.loc (thr d L) ↦[dst.view.set]{fullShare} dst.view.write (Elt F) fd (src.view.read (Elt F) fs) Finset.univ)
              ∗ (src.view.loc (thr d L) ↦[src.view.set]{q} fs)) ∗ Owing d L O W)
            -∗ wp frame (wpE (defs₀ (F := F)) 𝒱₀ (thr d L) none) Set.univ (k ⟨⟩) Q)
          -∗ wp frame (wpE (defs₀ (F := F)) 𝒱₀ (thr d L) none) Set.univ
            (.op (.enqueueDma src (.here dst) (.dma sem) hs hd ht) fun _ => .op (.waitDma2 sem src dst hs' hd') k) Q) := by
  unfold Owing
  have hu : 0 + N = N * 1 := by omega
  iintro ⟨#Hlv, Hsem, Hs, Hd, %W', %hW', HO⟩ Hk
  imod (Transfers.batch_alloc' (Lvl := ℕ) EC (thr d L) (none : HIx 1) N (CopyD d L src dst q fs fd) (sm := .dma sem) (E := Set.univ)) $$ Hsem with HB
  iapply (Transfers.wp_dmaBatch EC 𝒱₀ (thr d L) none (none : HIx 1) N (sm := .dma sem) (src := src) (dst := dst) (q := q) (fs := fs) (fd := fd)
    (D := CopyD d L src dst q fs fd) (Sd := dst.view.set) hN (Finset.Subset.refl _) Nat.one_pos (Nat.zero_le _) (CopyD_one d L src dst q fs fd Nat.one_pos)) $$ [Hs Hd HB]
  · isplitl [Hs]; · iexact Hs
    isplitl [Hd]; · iexact Hd
    iexact HB
  iintro HB
  iapply (Transfers.wp_waitBatchLastO EC 𝒱₀ (thr d L) none (none : HIx 1) (D := CopyD d L src dst q fs fd) hN hpos hu (O := O) (W := W')) $$ [HB HO]
  · isplitl [HB]; · iexact HB
    isplitl [HO]; · iexact HO
    iapply ((K (F := F)).mayWait_none (SemLoc.dma sem) hO); iexact Hlv
  iintro ⟨HD, Hsem, HO⟩
  ihave HD' := (CopyD_all d L src dst q fs fd) $$ HD
  iapply Hk
  isplitl [Hsem]; · iexact Hsem
  isplitl [HD']; · iexact HD'
  iexists _; isplitr
  rotate_left
  · iexact HO
  · ipureintro; intro p hp
    rcases Finset.mem_insert.mp hp with rfl | hp
    · exact .inr rfl
    · exact hW' p hp

end Cert.Proof.Gather

end
-- ==== Proof.Own.lean ====
/-
  The tile's own resources — its three semaphores and three scratch buffers among everything scoped to it — and its block of
  the labels and of the result.
-/
module

public import proofs.«01_k».proof.Proof.Carve

@[expose] public section

noncomputable section

namespace Cert.Proof.Gather

open Cert.KernelIdeal Cert.KernelIdeal.Gen
open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords)

/-- The tile's semaphores: the label fetch's, the write-out's, and the batch's. -/
abbrev cellA : GSem nD τ sig := (thr d L, .dma cc0_scoped0.sem)
abbrev cellB : GSem nD τ sig := (thr d L, .dma cc0_scoped1.sem)
abbrev cellC : GSem nD τ sig := (thr d L, .dma cc0_scratch3.sem)

theorem ownSems0_V :
    (ownSems0 (thr d L) : sProp 𝕄)
      = iprop(semVal (cellA d L) 0 ∗ semVal (cellB d L) 0 ∗ semVal (cellC d L) 0
          ∗ bigSep ((((ownCells (thr d L)).erase (cellA d L)).erase (cellB d L)).erase (cellC d L)) fun g => semVal g 0) := by
  have hAB : cellB d L ≠ cellA d L := fun e => absurd (congrArg Prod.snd e) (show (SemLoc.dma cc0_scoped1.sem : SemLoc sig) ≠ .dma cc0_scoped0.sem by decide)
  have hBC : cellC d L ≠ cellB d L := fun e => absurd (congrArg Prod.snd e) (show (SemLoc.dma cc0_scratch3.sem : SemLoc sig) ≠ .dma cc0_scoped1.sem by decide)
  have hAC : cellC d L ≠ cellA d L := fun e => absurd (congrArg Prod.snd e) (show (SemLoc.dma cc0_scratch3.sem : SemLoc sig) ≠ .dma cc0_scoped0.sem by decide)
  have hA : cellA d L ∈ ownCells (thr d L) := mem_ownCells.mpr ⟨rfl, show (SemLoc.dma cc0_scoped0.sem : SemLoc sig).isScoped .scVector = true by decide⟩
  have hB : cellB d L ∈ ownCells (thr d L) := mem_ownCells.mpr ⟨rfl, show (SemLoc.dma cc0_scoped1.sem : SemLoc sig).isScoped .scVector = true by decide⟩
  have hC : cellC d L ∈ ownCells (thr d L) := mem_ownCells.mpr ⟨rfl, show (SemLoc.dma cc0_scratch3.sem : SemLoc sig).isScoped .scVector = true by decide⟩
  unfold SparseCore.Cfg.ownSems0
  rw [SparseCore.bigSep_erase' hA, SparseCore.bigSep_erase' (Finset.mem_erase.mpr ⟨hAB, hB⟩),
    SparseCore.bigSep_erase' (Finset.mem_erase.mpr ⟨hBC, Finset.mem_erase.mpr ⟨hAC, hC⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have h0 := mem_ownRefs_of_owner (p := Proc.scVector (cV L) (jV L)) (b := (Proc.scVector (cV L) (jV L)).devRef cc0_scratch0) rfl
  have h1 := mem_ownRefs_of_owner (p := Proc.scVector (cV L) (jV L)) (b := (Proc.scVector (cV L) (jV L)).devRef cc0_scratch1) rfl
  have h2 := mem_ownRefs_of_owner (p := Proc.scVector (cV L) (jV L)) (b := (Proc.scVector (cV L) (jV L)).devRef cc0_scratch2) rfl
  have h01 : (cc0_scratch1 : Ref sig .scVector) ≠ cc0_scratch0 := by decide
  have h12 : (cc0_scratch2 : Ref sig .scVector) ≠ cc0_scratch1 := by decide
  have h02 : (cc0_scratch2 : Ref sig .scVector) ≠ cc0_scratch0 := by decide
  unfold SparseCore.Cfg.ownBufs
  refine (SparseCore.bigSep_erase' h0).trans ?_
  rw [SparseCore.bigSep_erase' (Finset.mem_erase.mpr ⟨fun e => absurd (Proc.devRef_injective _ e) h01, h1⟩),
    SparseCore.bigSep_erase' (Finset.mem_erase.mpr ⟨fun e => absurd (Proc.devRef_injective _ e) h12,
      Finset.mem_erase.mpr ⟨fun e => absurd (Proc.devRef_injective _ e) h02, h2⟩⟩)]

/-! ## The tile's block of the labels and of the result -/

theorem base_toNat_fin : ∀ (a : Fin 2) (b : Fin 16),
    (Scalar.muli (Scalar.addi (Scalar.muli (BitVec.ofNat 32 b.val) 2#32) (BitVec.ofNat 32 a.val)) 32#32).toNat = (b.val * 2 + a.val) * 32 := by
  decide +kernel

theorem off1_zero : k0_off1 L 0 = wid L * 32 := base_toNat_fin (L 0) (L 1)
theorem off65_zero : k0_off65 L 0 = wid L * 32 := base_toNat_fin (L 0) (L 1)

abbrev lblM : Memref sig .scVector .hbm S32 .i32 := lV.slice (Rect.unit (s := S1024) (k0_off1 L) S32.size (k0_off1_inb L)) (fun _ => rfl)
abbrev outM : Memref sig .scVector .hbm S32 .f32 := oV.slice (Rect.unit (s := S1024) (k0_off65 L) S32.size (k0_off65_inb L)) (fun _ => rfl)

theorem lblM_emb (y : S32.Idx) : (lblM L).view.emb y = labIx L (y 0) := by
  funext a; apply Fin.ext
  obtain rfl : a = (0 : Fin 1) := Subsingleton.elim (α := Fin 1) _ _
  show k0_off1 L 0 + 1 * (y 0).val = wid L * 32 + (y 0).val
  rw [off1_zero, one_mul]

theorem outM_emb (y : S32.Idx) : (outM L).view.emb y = labIx L (y 0) := by
  funext a; apply Fin.ext
  obtain rfl : a = (0 : Fin 1) := Subsingleton.elim (α := Fin 1) _ _
  show k0_off65 L 0 + 1 * (y 0).val = wid L * 32 + (y 0).val
  rw [off65_zero, one_mul]

/-- The tile's labels, from the array of labels. -/
def lbls (ml : IVec S1024 32) : Vec F S32 .i32 := fun y => ml (labIx L (y 0))

theorem fetched (fs : Buf (Elt F) (sL.view.loc (thr d L))) (ml : IVec S1024 32) :
    sL.view.write (Elt F) fs ((lblM L).view.read (Elt F) ml) Finset.univ = lbls (F := F) L ml := by
  refine (View.write_whole_univ _ _ _).trans (funext fun y => ?_)
  exact congrArg ml (lblM_emb L y)

end Cert.Proof.Gather

end
-- ==== Proof.Steps.lean ====
/-
  The tile's two runs of like steps as entailments one step long, each carrying along whatever else the tile holds: a label
  word checked and its box's copy issued; a copy waited for.
-/
module

public import proofs.«01_k».proof.Proof.Own

@[expose] public section

noncomputable section

namespace Cert.Proof.Gather

open Cert.KernelIdeal Cert.KernelIdeal.Gen
open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords) (lab : Labs)
variable (qs : Fin 32 → PosShare TreeShare) (pv : Buf (Elt F) (pV.view.loc (thr d L))) (fb : Buf (Elt F) (sB.view.loc (thr d L)))

/-- An entailment, to be used with its sides named. -/
theorem via {P Q : sProp 𝕄} (h : P ⊢ Q) : P ⊢ Q := h

/-- The side condition of copy `j`'s label word. -/
abbrev BoxOk (g v : BitVec 32) : Prop :=
  16 ∣ (Scalar.andi v 4294967280#32).toNat ∧ (∀ a, boxOff L g v a + S1x8x16.size a ≤ S128x8x100000.size a)
    ∧ (∀ a, boxOff L g v a + S1x8x16.size a ≤ S128x8x100000.size a)

theorem check_issue {α : Type} {Q : α → sProp 𝕄} {R : sProp 𝕄} (j : ℕ) (hj : j < 32) {A : Prop} {dec : Decidable A} {off off' : Fin 3 → ℕ}
    {hin : PLift A → ∀ a, off a + S1x8x16.size a ≤ S128x8x100000.size a} {hin'}
    {hs : ∀ x : PLift A, (srcM off (hin x)).view.WordExact} {hd : (dstM off' hin').view.WordExact}
    {ht : DmaTarget.Typed (nD := nD) (τ := τ) (p := (thr d L).2) .hbm (.dma cc0_scratch3.sem) (.here (dstM off' hin'))}
    {k : PLift A → PUnit → Prog (TpuEff nD τ sig (Elt F) Λ₀ (thr d L).2) α}
    (hA : BoxOk L (grp ⟨j, hj⟩) (lab.word ⟨j, hj⟩) → A)
    (e : off = boxOff L (grp ⟨j, hj⟩) (lab.word ⟨j, hj⟩)) (e' : off' = ![j, 0, 0])
    (hk : ∀ x : PLift A, iprop(Issue d L lab qs pv fb (j + 1) ∗ R) ⊢ wp frame (wpE (defs₀ (F := F)) 𝒱₀ (thr d L) none) Set.univ (k x ⟨⟩) Q) :
    iprop(Issue d L lab qs pv fb j ∗ R) ⊢ wp frame (wpE (defs₀ (F := F)) 𝒱₀ (thr d L) none) Set.univ
      (.op (.assume A dec) fun x => .op (.enqueueDma (srcM off (hin x)) (.here (dstM off' hin')) (.dma cc0_scratch3.sem) (hs x) hd ht) (k x)) Q := by
  have hA' : A := hA (box_ok L (grp_lt ⟨j, hj⟩) (lab.lt ⟨j, hj⟩))
  rw [wp_assume_of _ _ _ _ hA']
  iintro ⟨HI, HR⟩
  iapply (issue_step d L lab qs pv fb j hj e e' Q) $$ HI
  iintro HI
  iapply (hk ⟨hA'⟩)
  isplitl [HI] <;> iassumption

theorem wait_next {α : Type} {Q : α → sProp 𝕄} {R : sProp 𝕄} {O : CellTallies nD τ sig (HIx 1)} {W : Waits sig (HIx 1)} (hO : ∀ g, O g none = 0)
    (j : ℕ) (hj : j + 1 < 32)
    {off : Fin 3 → ℕ} {h} {off' : Fin 3 → ℕ} {h'} {hs : (srcM off h).view.WordExact} {hd : (dstM off' h').view.WordExact}
    {k : PUnit → Prog (TpuEff nD τ sig (Elt F) Λ₀ (thr d L).2) α}
    (hk : iprop(Waiting d L lab qs pv fb O W (j + 1) ∗ levAts (K (F := F)).L (K (F := F)).lev ∗ R)
      ⊢ wp frame (wpE (defs₀ (F := F)) 𝒱₀ (thr d L) none) Set.univ (k ⟨⟩) Q) :
    iprop(Waiting d L lab qs pv fb O W j ∗ levAts (K (F := F)).L (K (F := F)).lev ∗ R)
      ⊢ wp frame (wpE (defs₀ (F := F)) 𝒱₀ (thr d L) none) Set.univ
        (.op (.waitDma2 cc0_scratch3.sem (srcM off h) (dstM off' h') hs hd) k) Q := by
  iintro ⟨HW, #Hlv, HR⟩
  iapply (wait_step d L lab qs pv fb hO j hj Q) $$ [HW]
  · isplitr; · iexact Hlv
    iexact HW
  iintro HW
  iapply hk
  isplitl [HW]; · iexact HW
  isplitr; · iexact Hlv
  iexact HR

/-- All issued, none waited for. -/
theorem issued_waiting {R : sProp 𝕄} {O : CellTallies nD τ sig (HIx 1)} {W : Waits sig (HIx 1)} :
    iprop(Issue d L lab qs pv fb 32 ∗ Owing d L O W ∗ R) ⊢ iprop(Waiting d L lab qs pv fb O W 0 ∗ R) := by
  unfold Issue Waiting Owing
  rw [Nat.zero_mul]
  iintro ⟨⟨-, HB⟩, HO, HR⟩
  isplitl [HB HO]
  · isplitl [HB] <;> iassumption
  iexact HR

/-- Nothing issued yet: every box and slot, and the batch just begun. -/
theorem issue_zero :
    iprop((bigSep Finset.univ fun t => SrcP d L lab qs pv t) ∗ (bigSep Finset.univ fun t => SlotP d L fb t) ∗ semVal (cellC d L) 0)
      ⊢ (|={Set.univ}=> Issue d L lab qs pv fb 0 : sProp 𝕄) := by
  have hu : iprop((bigSep Finset.univ fun t => SrcP d L lab qs pv t) ∗ (bigSep Finset.univ fun t => SlotP d L fb t))
      ⊢ (bigSep Finset.univ fun t => iprop(SrcP d L lab qs pv t ∗ SlotP d L fb t) : sProp 𝕄) :=
    Entails.of_eq (BI.bigSep_sep Finset.univ (fun t => SrcP d L lab qs pv t) (fun t => SlotP d L fb t)).symm
  unfold Issue
  rw [Transfers.pending_zero]
  iintro ⟨Hs, Hd, Hsem⟩
  imod (Transfers.batch_alloc' (Lvl := ℕ) EC (thr d L) (none : HIx 1) NB (Dlv d L lab qs pv fb) (sm := .dma cc0_scratch3.sem) (E := Set.univ)) $$ Hsem with HB
  imodintro
  isplitl [Hs Hd]
  · iapply hu
    isplitl [Hs] <;> iassumption
  iexact HB

/-- What the tile knows of its scratch once every box has landed. -/
def Boxed (g : Buf (Elt F) (sB.view.loc (thr d L))) : Prop :=
  ∀ (t : Fin 32) (i : Idx (sB.view.loc (thr d L))), i ∈ slotSet d L t → g i = landed d L lab pv fb t i

/-- The rest of a batch: the boxes' shares go back to the scores, the slots to the scratch. -/
theorem all_back {A B : sProp 𝕄} :
    iprop((bigSep Finset.univ (Dlv d L lab qs pv fb)) ∗ ((bigSep Finset.univ fun t => SrcP d L lab qs pv t) -∗ A)
        ∗ ((bigSep Finset.univ fun t => SlotP d L (landed d L lab pv fb t) t) -∗ B))
      ⊢ (iprop(A ∗ B) : sProp 𝕄) := by
  have hu : (bigSep Finset.univ (Dlv d L lab qs pv fb))
      ⊢ (iprop((bigSep Finset.univ fun t => SlotP d L (landed d L lab pv fb t) t) ∗ (bigSep Finset.univ fun t => SrcP d L lab qs pv t)) : sProp 𝕄) :=
    Entails.of_eq (BI.bigSep_sep Finset.univ (fun t => SlotP d L (landed d L lab pv fb t) t) (fun t => SrcP d L lab qs pv t))
  iintro ⟨HD, HA, HB⟩
  ihave H := hu $$ HD
  icases H with ⟨H1, H2⟩
  isplitl [HA H2]
  · iapply HA; iexact H2
  · iapply HB; iexact H1

end Cert.Proof.Gather

end
-- ==== Proof.Gathered.lean ====
/-
  What a tile's two gathers read out of its landed boxes, and what its scratch of results and its block of the result hold
  afterwards: at each position the score its label names.
-/
module

public import proofs.«01_k».proof.Proof.Steps

@[expose] public section

noncomputable section

namespace Cert.Proof.Gather

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (L : grid0.Coords) (lab : Labs)
variable (pv : Vec F S128x8x100000 .f32) (fb : Buf (Elt F) (sB.view.loc (thr d L)))

/-- The score the tile's `t`-th label names. -/
def scoreAt (t : Fin 32) : F .f32 := pv (scoreIx (labIx L t) (lab.word t))

/-- In the scratch with every box landed, row `t % 8` and column `label % 16` of slot `t` hold that score. -/
theorem boxed_at {g : Buf (Elt F) (sB.view.loc (thr d L))} (hg : Boxed d L lab pv fb g) (t : Fin 32) (y : S32x8x128.Idx)
    (h0 : (y 0).val = t.val) (h1 : (y 1).val = t.val % 8) (h2 : (y 2).val = (lab.word t).toNat % 16) :
    g y = scoreAt L lab pv t := by
  obtain ⟨x, hx, hx'⟩ := box_value L t (grp_toNat t) (lab.lt t) (boxOff_inb L _ _ (grp_lt t) (lab.lt t)) y h0 h1 h2
  have hm : y ∈ slotSet d L t := by
    rw [← hx]; exact View.emb_mem_set _ _
  refine (hg t y hm).trans ?_
  unfold landed scoreAt
  rw [← hx, ← hx']
  exact View.write_emb_of_mem _ _ (Finset.mem_univ x)

/-! ## The index vectors -/

theorem lane_eq (x : S16.Idx) : x = (fun a => ⟨(x 0).val, by fin_cases a; exact (x 0).isLt⟩ : S16.Idx) := by
  funext a; obtain rfl : a = (0 : Fin 1) := Subsingleton.elim (α := Fin 1) _ _; rfl

theorem pay36_toNat (x : S16.Idx) : (k0_pay36 x).toNat = 0 + (x 0).val := by
  have h : ∀ k : Fin 16, (k0_pay36 (fun a => ⟨k.val, by fin_cases a; exact k.isLt⟩ : S16.Idx)).toNat = 0 + k.val := by decide +kernel
  exact (congrArg (fun x => (k0_pay36 x).toNat) (lane_eq x)).trans (h (x 0))

theorem pay37_toNat (x : S16.Idx) : (k0_pay37 x).toNat = (0 + (x 0).val) % 8 := by
  have h : ∀ k : Fin 16, (k0_pay37 (fun a => ⟨k.val, by fin_cases a; exact k.isLt⟩ : S16.Idx)).toNat = (0 + k.val) % 8 := by decide +kernel
  exact (congrArg (fun x => (k0_pay37 x).toNat) (lane_eq x)).trans (h (x 0))

theorem pay1_toNat (x : S16.Idx) : (k0_pay1 (iota .scVector S16 32 [0] iota_S16_d0_w32_scVector) 16#32 x).toNat = 16 + (x 0).val := by
  have h : ∀ k : Fin 16, (k0_pay1 (iota .scVector S16 32 [0] iota_S16_d0_w32_scVector) 16#32
      (fun a => ⟨k.val, by fin_cases a; exact k.isLt⟩ : S16.Idx)).toNat = 16 + k.val := by decide +kernel
  exact (congrArg (fun x => (k0_pay1 (iota .scVector S16 32 [0] iota_S16_d0_w32_scVector) 16#32 x).toNat) (lane_eq x)).trans (h (x 0))

theorem pay2_toNat (x : S16.Idx) : (k0_pay2 (iota .scVector S16 32 [0] iota_S16_d0_w32_scVector) x).toNat = (16 + (x 0).val) % 8 := by
  have h : ∀ k : Fin 16, (k0_pay2 (iota .scVector S16 32 [0] iota_S16_d0_w32_scVector)
      (fun a => ⟨k.val, by fin_cases a; exact k.isLt⟩ : S16.Idx)).toNat = (16 + k.val) % 8 := by decide +kernel
  exact (congrArg (fun x => (k0_pay2 (iota .scVector S16 32 [0] iota_S16_d0_w32_scVector) x).toNat) (lane_eq x)).trans (h (x 0))

theorem pay35_toNat (v : Vec F S16 .i32) (x : S16.Idx) : (k0_pay35 v x).toNat = (v x : BitVec 32).toNat % 16 := and_low (v x)
theorem pay38_toNat (v : Vec F S16 .i32) (x : S16.Idx) : (k0_pay38 v x).toNat = (v x : BitVec 32).toNat % 16 := and_low (v x)

/-- Position `b + x` of the tile's 32. -/
def at16 (b : ℕ) (hb : b + 16 ≤ 32) (x : S16.Idx) : Fin 32 := ⟨b + (x 0).val, by have : (x 0).val < 16 := (x 0).isLt; omega⟩

variable {r s l : IVec S16 32} {b : ℕ} {hb : b + 16 ≤ 32}

/-- Index vectors of slot, row and column that name the labels' elements are in range. -/
theorem gather_ok (hr : ∀ x, (r x).toNat = b + (x 0).val) (hs : ∀ x, (s x).toNat = (b + (x 0).val) % 8)
    (hl : ∀ x, (l x).toNat = (lab.word (at16 b hb x)).toNat % 16) :
    ∀ a x, ((![r, s, l] : Fin 3 → IVec S16 32) a x).toNat < S32x8x128.size a := by
  intro a x
  have hx : (x 0).val < 16 := (x 0).isLt
  have h0 := hr x
  have h1 := hs x
  have h2 := hl x
  fin_cases a
  · show (r x).toNat < 32
    omega
  · show (s x).toNat < 8
    omega
  · show (l x).toNat < 128
    omega

/-- And the gather by them reads the labels' scores. -/
theorem gather_val {g : Buf (Elt F) (sB.view.loc (thr d L))} (hg : Boxed d L lab pv fb g)
    (hr : ∀ x, (r x).toNat = b + (x 0).val) (hs : ∀ x, (s x).toNat = (b + (x 0).val) % 8)
    (hl : ∀ x, (l x).toNat = (lab.word (at16 b hb x)).toNat % 16)
    (h : ∀ a x, ((![r, s, l] : Fin 3 → IVec S16 32) a x).toNat < S32x8x128.size a) :
    loadIdx (F := F) (e := .f32) ((sB.access (.whole S32x8x128)).read (Elt F) g) ![r, s, l] h = fun x => scoreAt L lab pv (at16 b hb x) := by
  funext x
  have hwhole : (Rect.whole S32x8x128).emb (idxAt (s := S32x8x128) ![r, s, l] h x) = idxAt (s := S32x8x128) ![r, s, l] h x := by
    funext a; apply Fin.ext; rw [Rect.emb_apply]; show 0 + 1 * _ = _; rw [Nat.zero_add, Nat.one_mul]
  refine (congrArg g hwhole).trans ?_
  exact boxed_at d L lab pv fb hg (at16 b hb x) _ (hr x) (hs x) (hl x)

/-! ## The scratch of results and the block -/

/-- The tile's results. -/
def outs : Vec F S32 .f32 := fun y => scoreAt L lab pv (y 0)

theorem half_emb (b : ℕ) (hb : b + 16 ≤ 32) (h : ∀ a, (![b] : Fin 1 → ℕ) a + S16.size a ≤ S32.size a) (x : S16.Idx) :
    (((sG.access (Rect.unit (s := S32) ![b] S16.size h)).emb x : S32.Idx) 0).val = b + (x 0).val := by
  show b + 1 * (x 0).val = _
  rw [Nat.one_mul]

/-- The two stores fill the scratch of results. -/
theorem two_stores (fg : Buf (Elt F) (sG.view.loc (thr d L))) (h0 h1) :
    (sG.access (Rect.unit (s := S32) ![16] S16.size h1)).write (Elt F)
      ((sG.access (Rect.unit (s := S32) ![0] S16.size h0)).write (Elt F) fg (fun x => scoreAt L lab pv (at16 0 (by decide) x)) Finset.univ)
      (fun x => scoreAt L lab pv (at16 16 (by decide) x)) Finset.univ = outs L lab pv := by
  funext y
  by_cases hy : (y 0).val < 16
  · rw [View.write_of_not_mem]
    · have e : (sG.access (Rect.unit (s := S32) ![0] S16.size h0)).emb (fun a => ⟨(y 0).val, by fin_cases a; exact hy⟩ : S16.Idx) = y := by
        funext a; apply Fin.ext; obtain rfl : a = (0 : Fin 1) := Subsingleton.elim (α := Fin 1) _ _
        refine (half_emb 0 (by decide) h0 _).trans ?_
        exact Nat.zero_add _
      conv_lhs => rw [← e]
      refine (View.write_emb_of_mem _ _ (Finset.mem_univ _)).trans ?_
      show scoreAt L lab pv (at16 0 _ _) = scoreAt L lab pv (y 0)
      congr 1; apply Fin.ext; exact Nat.zero_add _
    · intro hm
      obtain ⟨x, -, hx⟩ := Finset.mem_map.mp hm
      have := half_emb 16 (by decide) h1 x
      rw [show (sG.access (Rect.unit (s := S32) ![16] S16.size h1)).emb x = y from hx] at this
      omega
  · have hy' : (y 0).val < 32 := (y 0).isLt
    have e : (sG.access (Rect.unit (s := S32) ![16] S16.size h1)).emb (fun a => ⟨(y 0).val - 16, by fin_cases a; show _ < 16; omega⟩ : S16.Idx) = y := by
      funext a; apply Fin.ext; obtain rfl : a = (0 : Fin 1) := Subsingleton.elim (α := Fin 1) _ _
      refine (half_emb 16 (by decide) h1 _).trans ?_
      show 16 + ((y 0).val - 16) = (y 0).val
      omega
    conv_lhs => rw [← e]
    refine (View.write_emb_of_mem _ _ (Finset.mem_univ _)).trans ?_
    show scoreAt L lab pv (at16 16 _ _) = scoreAt L lab pv (y 0)
    congr 1; apply Fin.ext
    show 16 + ((y 0).val - 16) = (y 0).val
    omega

/-- The tile's label words. -/
def labsOf (ml : IVec S1024 32) (hml : ∀ p, (ml p).toNat < 100000) : Labs := ⟨fun t => ml (labIx L t), fun _ => hml _⟩

/-- Written out, they are the tile's block of the result. -/
theorem written (ml : IVec S1024 32) (hml : ∀ p, (ml p).toNat < 100000) (f0 : Vec F S1024 .f32) (i : S1024.Idx) (hi : i ∈ (outM L).view.set) :
    (outM L).view.write (Elt F) f0 (sG.view.read (Elt F) (outs L (labsOf L ml hml) pv)) Finset.univ i = gath pv ml i := by
  obtain ⟨y, -, rfl⟩ := Finset.mem_map.mp hi
  refine (View.write_emb_of_mem _ _ (Finset.mem_univ _)).trans ?_
  show scoreAt L (labsOf L ml hml) pv (y 0) = pv (scoreIx ((outM L).view.emb y) (ml ((outM L).view.emb y)))
  rw [outM_emb]; rfl

end Cert.Proof.Gather

end
-- ==== Proof.Tile.lean ====
/-
  The body of the SparseCore kernel on one tile: the labels fetched, 32 boxes fetched on one semaphore, the two gathers out
  of them, and the block of results written out — with the block's value.
-/
module

public import proofs.«01_k».proof.Proof.Gathered

@[expose] public section

noncomputable section

namespace Cert.Proof.Gather

open Cert.KernelIdeal Cert.KernelIdeal.Gen
open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords)

/-- What the tile holds on the side while the batch runs. -/
def Rest (O : CellTallies nD τ sig (HIx 1)) (W : Waits sig (HIx 1)) (qp ql : PosShare TreeShare) (pv : Vec F S128x8x100000 .f32) (ml : IVec S1024 32)
    (f0 : Vec F S1024 .f32) (fb : Buf (Elt F) (sB.view.loc (thr d L))) (fg : Buf (Elt F) (sG.view.loc (thr d L))) (lab : Labs) : sProp 𝕄 :=
  iprop(((bigSep Finset.univ fun t => SrcP d L lab (shareOf qp) pv t) -∗ (pV.view.loc (thr d L) ↦{qp} pv))
    ∗ ((bigSep Finset.univ fun t => SlotP d L (landed d L lab pv fb t) t)
        -∗ ∃ g, ⌜Boxed d L lab pv fb g⌝ ∗ (sB.view.loc (thr d L) ↦{fullShare} g))
    ∗ ((outM L).view.loc (thr d L) ↦[(outM L).view.set]{fullShare} f0)
    ∗ ((thr d L).loc cc0_scratch2 ↦{fullShare} fg) ∗ semVal (cellB d L) 0)

set_option maxRecDepth 100000 in
set_option maxHeartbeats 40000000 in
set_option pp.maxSteps 400 in
theorem tile_body (hF : (K (F := F)).Facts) (O : CellTallies nD τ sig (HIx 1)) (W : Waits sig (HIx 1)) (hO : ∀ g, O g none = 0)
    (pv : Vec F S128x8x100000 .f32) (ml : IVec S1024 32) (f0 : Vec F S1024 .f32) (hml : ∀ p, (ml p).toNat < 100000) (qp ql : PosShare TreeShare) :
    iprop(levAts (K (F := F)).L (K (F := F)).lev
        ∗ ((pV.view.loc (thr d L) ↦{qp} pv) ∗ (lV.view.loc (thr d L) ↦{ql} ml) ∗ ((outM L).view.loc (thr d L) ↦[(outM L).view.set]{fullShare} f0))
        ∗ scopedBufs (thr d L) ∗ scopedSems0 (thr d L) ∗ owes (thr d L) O W)
      ⊢ wp frame (wpE (defs₀ (F := F)) 𝒱₀ (thr d L) none) Set.univ
      (cc0_sc_gather L pV (Memref.isWhole_whole _) lV (Memref.isWhole_whole _) oV (Memref.isWhole_whole _)
            sL (Memref.isWhole_whole _) sB (Memref.isWhole_whole _) sG (Memref.isWhole_whole _)
            cc0_scratch3 cc0_scoped0 cc0_scoped1)
        fun _ => (iprop(((pV.view.loc (thr d L) ↦{qp} pv) ∗ (lV.view.loc (thr d L) ↦{ql} ml)
            ∗ ((outM L).view.loc (thr d L) ↦[(outM L).view.set]{fullShare} gath pv ml))
          ∗ scopedBufs (thr d L) ∗ scopedSems0 (thr d L) ∗ ∃ W', ⌜∀ p ∈ W', p ∈ W ∨ p.2 = none⌝ ∗ owes (thr d L) O W') : sProp 𝕄) := by
  simp only [cc0_sc_gather_eq_skeleton]
  unfold cc0_sc_gather_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton,
    k0_part22_eq_skeleton, k0_part23_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
    k0_part19_skel k0_part20_skel k0_part21_skel k0_part22_skel k0_part23_skel
  simp only [Prog.lift, Prog.bind_op, Prog.bind_ret, Prog.pure_eq_ret, SparseCore.vectorLoadIdx_bind]
  rw [(K (F := F)).scopedBufs_V hF d (cV L) (jV L), SparseCore.Cfg.scopedSems0_V (Val := Elt F) d (cV L) (jV L), ownSems0_V, ownBufs_V]
  iintro ⟨#Hlv, ⟨Hp, Hl, Ho⟩, ⟨⟨%fs, Hs⟩, ⟨%fb, Hb⟩, ⟨%fg, Hg⟩, Hbufs⟩, ⟨HsA, HsB, HsC, Hsems⟩, HO⟩
  -- the labels
  have hsplitL : ((lV.view.loc (thr d L) ↦{ql} ml) : sProp 𝕄) ⊣⊢ iprop(((lblM L).view.loc (thr d L) ↦[(lblM L).view.set]{ql} ml)
      ∗ (lV.view.loc (thr d L) ↦[Finset.univ \ (lblM L).view.set]{ql} ml)) := pointsTo_split_subset (Finset.subset_univ _)
  have hsL (f : Buf (Elt F) (sL.view.loc (thr d L))) : ((sL.view.loc (thr d L) ↦[sL.view.set]{fullShare} f) : sProp 𝕄) = (thr d L).loc cc0_scratch0 ↦{fullShare} f := by
    simp only [Memref.view_whole, View.set_whole]
  have hsB (f : Buf (Elt F) (sB.view.loc (thr d L))) : ((sB.view.loc (thr d L) ↦{fullShare} f) : sProp 𝕄) = (thr d L).loc cc0_scratch1 ↦{fullShare} f := rfl
  have hfet (f : Buf (Elt F) (sL.view.loc (thr d L))) :
      ((sL.view.loc (thr d L) ↦[sL.view.set]{fullShare} sL.view.write (Elt F) f ((lblM L).view.read (Elt F) ml) Finset.univ) : sProp 𝕄)
        = (sL.view.loc (thr d L) ↦{fullShare} lbls (F := F) L ml) := by
    rw [fetched]; simp only [Memref.view_whole, View.set_whole]
  have hsG0 (f : Buf (Elt F) (sG.view.loc (thr d L))) : ((thr d L).loc cc0_scratch2 ↦{fullShare} f : sProp 𝕄)
      = ((sG.access (Rect.unit (s := S32) ![0] S16.size inb_S32_S16_0)).loc (thr d L) ↦[Finset.univ]{fullShare} f) := rfl
  have hsG1 (f : Buf (Elt F) (sG.view.loc (thr d L))) :
      ((sG.access (Rect.unit (s := S32) ![0] S16.size inb_S32_S16_0)).loc (thr d L) ↦[Finset.univ]{fullShare} f : sProp 𝕄)
      = ((sG.access (Rect.unit (s := S32) ![16] S16.size inb_S32_S16_16)).loc (thr d L) ↦[Finset.univ]{fullShare} f) := rfl
  have hsGb : ((sG.view.loc (thr d L) ↦[sG.view.set]{fullShare} outs L (labsOf L ml hml) pv) : sProp 𝕄)
      = ((thr d L).loc cc0_scratch2 ↦{fullShare} outs L (labsOf L ml hml) pv) := by
    simp only [Memref.view_whole, View.set_whole]
  have hl0 (x : S16.Idx) : (k0_pay35 (sL.view.readAt (Elt F) (Rect.unit (s := S32) ![0] S16.size inb_S32_S16_0).toLoadRect (lbls (F := F) L ml)) x).toNat
      = ((labsOf L ml hml).word (at16 0 (by decide) x)).toNat % 16 := by
    rw [pay35_toNat]
    show (ml (labIx L _)).toNat % 16 = (ml (labIx L _)).toNat % 16
    congr 4; apply Fin.ext; show 0 + 1 * (x 0).val = 0 + (x 0).val; omega
  have hl1 (x : S16.Idx) : (k0_pay38 (sL.view.readAt (Elt F) (Rect.unit (s := S32) ![16] S16.size inb_S32_S16_16).toLoadRect (lbls (F := F) L ml)) x).toNat
      = ((labsOf L ml hml).word (at16 16 (by decide) x)).toNat % 16 := by
    rw [pay38_toNat]
    show (ml (labIx L _)).toNat % 16 = (ml (labIx L _)).toNat % 16
    congr 4; apply Fin.ext; show 16 + 1 * (x 0).val = 16 + (x 0).val; omega
  have hgv (fg : Buf (Elt F) (sG.view.loc (thr d L))) {fb} (g : Buf (Elt F) (sB.view.loc (thr d L))) (hg : Boxed d L (labsOf L ml hml) pv fb g) (h1 h2) :
      ((sG.access (Rect.unit (s := S32) ![16] S16.size inb_S32_S16_16)).loc (thr d L) ↦[Finset.univ]{fullShare}
        (sG.access (Rect.unit (s := S32) ![16] S16.size inb_S32_S16_16)).write (Elt F)
          ((sG.access (Rect.unit (s := S32) ![0] S16.size inb_S32_S16_0)).write (Elt F) fg
            (loadIdx (F := F) (e := .f32) ((sB.access (.whole S32x8x128)).read (Elt F) g) ![k0_pay36, k0_pay37,
              k0_pay35 (sL.view.readAt (Elt F) (Rect.unit (s := S32) ![0] S16.size inb_S32_S16_0).toLoadRect (lbls (F := F) L ml))] h1) Finset.univ)
          (loadIdx (F := F) (e := .f32) ((sB.access (.whole S32x8x128)).read (Elt F) g) ![k0_pay1 (iota .scVector S16 32 [0] iota_S16_d0_w32_scVector) 16#32,
              k0_pay2 (iota .scVector S16 32 [0] iota_S16_d0_w32_scVector),
              k0_pay38 (sL.view.readAt (Elt F) (Rect.unit (s := S32) ![16] S16.size inb_S32_S16_16).toLoadRect (lbls (F := F) L ml))] h2) Finset.univ : sProp 𝕄)
        = (sG.view.loc (thr d L) ↦[sG.view.set]{fullShare} outs L (labsOf L ml hml) pv) := by
    rw [gather_val d L (labsOf L ml hml) pv fb hg pay36_toNat pay37_toNat hl0, gather_val d L (labsOf L ml hml) pv fb hg pay1_toNat pay2_toNat hl1]
    refine (congrArg (fun f : Buf (Elt F) (sG.view.loc (thr d L)) => (sG.view.loc (thr d L) ↦[Finset.univ]{fullShare} f : sProp 𝕄))
      (two_stores d L (labsOf L ml hml) pv fg inb_S32_S16_0 inb_S32_S16_16)).trans hsGb.symm
  have hNO : 0 < (outM L).view.dmaCredit := View.dmaCredit_pos _ (by decide)
  have hOw : (iprop(∃ W', ⌜∀ p ∈ W', p ∈ W ∨ p.2 = none⌝ ∗ owes (thr d L) O W') : sProp 𝕄) = Owing d L O W := rfl
  have hNL : 0 < sL.view.dmaCredit := View.dmaCredit_pos _ (by decide)
  ihave Hl2 := hsplitL.1 $$ Hl
  icases Hl2 with ⟨Hl, Hlr⟩
  ihave HO := (show (owes (thr d L) O W : sProp 𝕄) ⊢ Owing d L O W by
    unfold Owing; iintro H; iexists W; isplitr
    · ipureintro; exact fun p hp => .inl hp
    · iexact H) $$ HO
  ihave Hs := (Entails.of_eq (hsL fs).symm) $$ Hs
  iapply (copy_wait d L hO rfl hNL) $$ [HsA Hl Hs HO]
  · isplitr; · iexact Hlv
    isplitl [HsA]; · iexact HsA
    isplitl [Hl]; · iexact Hl
    isplitl [Hs]; · iexact Hs
    iexact HO
  iintro ⟨HsA, ⟨Hs, Hl⟩, HO⟩
  ihave Hs := (Entails.of_eq (hfet fs)) $$ Hs
  iapply (wp_load 𝒱₀ (thr d L) none Set.univ (m := sL) (S := Finset.univ) (Finset.subset_univ _)) $$ Hs; iintro Hs
  iapply (wp_load 𝒱₀ (thr d L) none Set.univ (m := sL) (S := Finset.univ) (Finset.subset_univ _)) $$ Hs; iintro Hs
  -- the boxes, issued
  ihave Hp2 := (carve_src d L (labsOf L ml hml) pv qp) $$ Hp
  icases Hp2 with ⟨Hps, Hpb⟩
  ihave Hb := (Entails.of_eq (hsB fb).symm) $$ Hb
  ihave Hb2 := (carve_slots d L fb (landed d L (labsOf L ml hml) pv fb)) $$ Hb
  icases Hb2 with ⟨Hbs, Hbb⟩
  imod (issue_zero d L (labsOf L ml hml) (shareOf qp) pv fb) $$ [Hps Hbs HsC] with HI
  · isplitl [Hps]; · iexact Hps
    isplitl [Hbs]; · iexact Hbs
    iexact HsC
  let Fr : sProp 𝕄 := iprop(((lblM L).view.loc (thr d L) ↦[(lblM L).view.set]{ql} ml)
      ∗ (lV.view.loc (thr d L) ↦[Finset.univ \ (lblM L).view.set]{ql} ml) ∗ ((thr d L).loc cc0_scratch0 ↦{fullShare} lbls (F := F) L ml)
      ∗ semVal (cellA d L) 0
      ∗ (bigSep ((((ownCells (thr d L)).erase (cellA d L)).erase (cellB d L)).erase (cellC d L)) fun g => semVal g 0)
      ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f))
  iapply (via (P := iprop(Issue d L (labsOf L ml hml) (shareOf qp) pv fb 0 ∗ (Owing d L O W ∗ levAts (K (F := F)).L (K (F := F)).lev
      ∗ Rest d L O W qp ql pv ml f0 fb fg (labsOf L ml hml) ∗ Fr))) ?loop) $$ [HI HO Hpb Hbb Hl Hlr Ho Hs Hg HsA HsB Hsems Hbufs]
  rotate_left
  · isplitl [HI]; · iexact HI
    isplitl [HO]; · iexact HO
    isplitr; · iexact Hlv
    isplitl [Hpb Hbb Ho Hg HsB]
    · unfold Rest
      isplitl [Hpb]; · iexact Hpb
      isplitl [Hbb]; · iexact Hbb
      isplitl [Ho]; · iexact Ho
      isplitl [Hg] <;> iassumption
    isplitl [Hl]; · iexact Hl
    isplitl [Hlr]; · iexact Hlr
    isplitl [Hs]; · iexact Hs
    isplitl [HsA]; · iexact HsA
    isplitl [Hsems] <;> iassumption
  iterate 31 (refine check_issue d L (labsOf L ml hml) (shareOf qp) pv fb _ ?_ ?_ ?_ ?_ ?_; (· decide); (· exact id); (· rfl); (· rfl); intro x)
  refine check_issue d L (labsOf L ml hml) (shareOf qp) pv fb _ ?_ ?_ ?_ ?_ ?_; (· decide); (· exact fun h => ⟨h.1, h.2.1⟩); (· rfl); (· rfl); intro x
  refine (issued_waiting d L (labsOf L ml hml) (shareOf qp) pv fb).trans ?_
  -- and waited for
  iterate 31 (refine wait_next d L (labsOf L ml hml) (shareOf qp) pv fb hO _ ?_ ?_; (· decide))
  iintro ⟨HW, #Hlv, HR, HFr⟩
  iapply (wait_last d L (labsOf L ml hml) (shareOf qp) pv fb hO) $$ [HW]
  · isplitr; · iexact Hlv
    iexact HW
  unfold Rest
  icases HR with ⟨Hpb, Hbb, Ho, Hg, HsB⟩
  iintro ⟨HD, HsC, HO⟩
  ihave Hback := (all_back d L (labsOf L ml hml) (shareOf qp) pv fb) $$ [HD Hpb Hbb]
  · isplitl [HD]; · iexact HD
    isplitl [Hpb] <;> iassumption
  icases Hback with ⟨Hp, %g, %hg, Hb⟩
  -- the two gathers
  ihave Hg := (Entails.of_eq (hsG0 fg)) $$ Hg
  iapply (wp_assume 𝒱₀ (thr d L) none Set.univ (gather_ok (labsOf L ml hml) pay36_toNat pay37_toNat hl0))
  iapply (wp_load_rect 𝒱₀ (thr d L) none Set.univ (m := sB) (r := .whole S32x8x128) (S := Finset.univ) (Finset.subset_univ _)) $$ Hb; iintro Hb
  iapply (wp_load_rect 𝒱₀ (thr d L) none Set.univ (m := sG) (S := Finset.univ) (Finset.subset_univ _)) $$ Hg; iintro Hg
  iapply (wp_store 𝒱₀ (thr d L) none Set.univ (m := sG) (S := Finset.univ) (Finset.subset_univ _)) $$ Hg; iintro Hg
  ihave Hg := (Entails.of_eq (hsG1 _)) $$ Hg
  iapply (wp_assume 𝒱₀ (thr d L) none Set.univ (gather_ok (labsOf L ml hml) pay1_toNat pay2_toNat hl1))
  iapply (wp_load_rect 𝒱₀ (thr d L) none Set.univ (m := sB) (r := .whole S32x8x128) (S := Finset.univ) (Finset.subset_univ _)) $$ Hb; iintro Hb
  iapply (wp_load_rect 𝒱₀ (thr d L) none Set.univ (m := sG) (S := Finset.univ) (Finset.subset_univ _)) $$ Hg; iintro Hg
  iapply (wp_store 𝒱₀ (thr d L) none Set.univ (m := sG) (S := Finset.univ) (Finset.subset_univ _)) $$ Hg; iintro Hg
  ihave Hg := (Entails.of_eq (hgv fg g hg _ _)) $$ Hg
  -- the write-out
  ihave HO := (Entails.of_eq hOw) $$ HO
  iapply (copy_wait d L hO rfl hNO) $$ [HsB Hg Ho HO]
  · isplitr; · iexact Hlv
    isplitl [HsB]; · iexact HsB
    isplitl [Hg]; · iexact Hg
    isplitl [Ho]; · iexact Ho
    iexact HO
  iintro ⟨HsB, ⟨Ho, Hg⟩, HO⟩
  ihave Ho := (Entails.of_eq (pointsTo_congr (written L pv ml hml f0))) $$ Ho
  ihave Hg := (Entails.of_eq hsGb) $$ Hg
  icases HFr with ⟨Hl, Hlr, Hs, HsA, Hsems, Hbufs⟩
  ihave Hl := hsplitL.2 $$ [Hl Hlr]
  · isplitl [Hl] <;> iassumption
  rw [wp_ret]; imodintro
  isplitl [Hp Hl Ho]
  · isplitl [Hp]; · iexact Hp
    isplitl [Hl] <;> iassumption
  isplitl [Hs Hb Hg Hbufs]
  · isplitl [Hs]; · iexists _; iexact Hs
    isplitl [Hb]; · iexists _; iexact Hb
    isplitl [Hg]; · iexists _; iexact Hg
    iexact Hbufs
  isplitl [HsA HsB HsC Hsems]
  · isplitl [HsA]; · iexact HsA
    isplitl [HsB]; · iexact HsB
    isplitl [HsC] <;> iassumption
  ihave HO := (Entails.of_eq hOw.symm) $$ HO
  iexact HO

end Cert.Proof.Gather

end
-- ==== Proof.Deal.lean ====
/-
  How the SparseCore call's operands are dealt: read shares of the scores and the labels, and the blocks of the result, to
  the two SparseCores and on to their sixteen tiles each; and how they come back with the result gathered.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The grid point of SparseCore `c` and tile `s`. -/
def coords (c : Fin (grid0.bound 0)) (s : Fin (grid0.bound 1)) : grid0.Coords :=
  fun | 0 => c | 1 => s | ⟨_ + 2, h⟩ => absurd h (Nat.not_lt.2 (Nat.le_add_left _ _))

/-! ## The blocks of the result -/

/-- The elements of tile `(c, s)`'s block, and of SparseCore `c`'s blocks together. -/
def tileSet (c : Fin 2) (s : Fin 16) : Finset S1024.Idx := (outM (coords c s)).view.set
def coreSet (c : Fin 2) : Finset S1024.Idx := Finset.univ.biUnion (tileSet c)

theorem mem_tileSet (c : Fin 2) (s : Fin 16) (i : S1024.Idx) :
    i ∈ tileSet c s ↔ (i 0).val / 32 = s.val * 2 + c.val := by
  have hc := c.isLt
  have hs := s.isLt
  constructor
  · intro h
    obtain ⟨y, -, rfl⟩ := Finset.mem_map.mp h
    show (((outM (coords c s)).view.emb y : S1024.Idx) 0).val / 32 = _
    rw [outM_emb]
    show ((s.val * 2 + c.val) * 32 + (y 0).val) / 32 = s.val * 2 + c.val
    have : (y 0).val < 32 := (y 0).isLt
    omega
  · intro h
    refine Finset.mem_map.mpr ⟨(fun a => ⟨(i 0).val % 32, by fin_cases a; exact Nat.mod_lt _ (by decide)⟩ : S32.Idx), Finset.mem_univ _, ?_⟩
    refine (outM_emb (coords c s) _).trans ?_
    funext a; apply Fin.ext; obtain rfl : a = (0 : Fin 1) := Subsingleton.elim (α := Fin 1) _ _
    show (s.val * 2 + c.val) * 32 + (i 0).val % 32 = (i 0).val
    omega

theorem tiles_disjoint (c : Fin 2) : ∀ s ∈ (Finset.univ : Finset (Fin 16)), ∀ s' ∈ (Finset.univ : Finset (Fin 16)), s ≠ s' →
    Disjoint (tileSet c s) (tileSet c s') := fun s _ s' _ h => Finset.disjoint_left.mpr fun i h1 h2 => h (Fin.ext (by
  rw [mem_tileSet] at h1 h2; omega))

theorem mem_coreSet (c : Fin 2) (i : S1024.Idx) : i ∈ coreSet c ↔ (i 0).val / 32 % 2 = c.val := by
  have hc := c.isLt
  have hi : (i 0).val < 1024 := (i 0).isLt
  constructor
  · intro h
    obtain ⟨s, -, hs⟩ := Finset.mem_biUnion.mp h
    rw [mem_tileSet] at hs; omega
  · intro h
    refine Finset.mem_biUnion.mpr ⟨⟨(i 0).val / 64, by omega⟩, Finset.mem_univ _, ?_⟩
    rw [mem_tileSet]; show _ = (i 0).val / 64 * 2 + c.val; omega

theorem cores_disjoint : ∀ c ∈ (Finset.univ : Finset (Fin 2)), ∀ c' ∈ (Finset.univ : Finset (Fin 2)), c ≠ c' →
    Disjoint (coreSet c) (coreSet c') := fun c _ c' _ h => Finset.disjoint_left.mpr fun i h1 h2 => h (Fin.ext (by
  rw [mem_coreSet] at h1 h2; omega))

theorem cores_cover : (Finset.univ : Finset (Fin 2)).biUnion coreSet = Finset.univ := by
  refine Finset.eq_univ_of_forall fun i => Finset.mem_biUnion.mpr ⟨⟨(i 0).val / 32 % 2, Nat.mod_lt _ (by decide)⟩, Finset.mem_univ _, ?_⟩
  rw [mem_coreSet]

/-! ## What is dealt -/

variable (pv : Dev nD → Vec F S128x8x100000 .f32) (ml : Dev nD → IVec S1024 32) (f0 : Dev nD → Vec F S1024 .f32)

/-- SparseCore `c`'s read share, and tile `(c, s)`'s of it. -/
abbrev coreShare (c : Fin 2) : PosShare TreeShare := Transfers.dealOf fullShare Finset.univ c
abbrev tileShare (c : Fin 2) (s : Fin 16) : PosShare TreeShare := Transfers.dealOf (coreShare c) Finset.univ s

/-- The operands whole, SparseCore `c`'s part, and tile `(c, s)`'s: the result at `f`. -/
def WholeP (d : Dev nD) (f : Vec F S1024 .f32) : sProp 𝕄 :=
  iprop((pLoc d ↦{fullShare} pv d) ∗ (lLoc d ↦{fullShare} ml d) ∗ (oLoc d ↦{fullShare} f))
def CoreP (d : Dev nD) (f : Vec F S1024 .f32) (c : Fin 2) : sProp 𝕄 :=
  iprop((pLoc d ↦{coreShare c} pv d) ∗ (lLoc d ↦{coreShare c} ml d) ∗ (oLoc d ↦[coreSet c]{fullShare} f))
def TileP (d : Dev nD) (f : Vec F S1024 .f32) (c : Fin 2) (s : Fin 16) : sProp 𝕄 :=
  iprop((pLoc d ↦{tileShare c s} pv d) ∗ (lLoc d ↦{tileShare c s} ml d) ∗ (oLoc d ↦[tileSet c s]{fullShare} f))

instance CoreP_storable (d : Dev nD) (f : Vec F S1024 .f32) (c : Fin 2) : Storable (upEmb : UEmb _ 𝕄) (CoreP pv ml d f c) := by
  unfold CoreP; infer_instance
instance TileP_storable (d : Dev nD) (f : Vec F S1024 .f32) (c : Fin 2) (s : Fin 16) : Storable (upEmb : UEmb _ 𝕄) (TileP pv ml d f c s) := by
  unfold TileP; infer_instance

/-- The operands whole are the two SparseCores' parts. -/
theorem whole_cores (d : Dev nD) (f : Vec F S1024 .f32) : (WholeP pv ml d f : sProp 𝕄) = bigSep Finset.univ (CoreP pv ml d f) := by
  have h1 : (pLoc d ↦{fullShare} pv d : sProp 𝕄) = bigSep Finset.univ fun c : Fin 2 => pLoc d ↦{coreShare c} pv d :=
    Transfers.pointsTo_deal (Finset.univ : Finset (Fin 2)) Finset.univ_nonempty fullShare
  have h2 : (lLoc d ↦{fullShare} ml d : sProp 𝕄) = bigSep Finset.univ fun c : Fin 2 => lLoc d ↦{coreShare c} ml d :=
    Transfers.pointsTo_deal (Finset.univ : Finset (Fin 2)) Finset.univ_nonempty fullShare
  have h3 : (oLoc d ↦{fullShare} f : sProp 𝕄) = bigSep Finset.univ fun c : Fin 2 => oLoc d ↦[coreSet c]{fullShare} f := by
    rw [← pointsTo_biUnion Finset.univ (ℓ := oLoc d) coreSet cores_disjoint, cores_cover]; try rfl
  unfold WholeP
  rw [h1, h2, h3]
  exact ((BI.bigSep_sep Finset.univ _ _).trans (congrArg (fun Q => BI.sep _ Q) (BI.bigSep_sep Finset.univ _ _))).symm

/-- A SparseCore's part is its tiles' parts. -/
theorem core_tiles (d : Dev nD) (f : Vec F S1024 .f32) (c : Fin 2) : (CoreP pv ml d f c : sProp 𝕄) = bigSep Finset.univ (TileP pv ml d f c) := by
  have h1 : (pLoc d ↦{coreShare c} pv d : sProp 𝕄) = bigSep Finset.univ fun s : Fin 16 => pLoc d ↦{tileShare c s} pv d :=
    Transfers.pointsTo_deal (Finset.univ : Finset (Fin 16)) Finset.univ_nonempty (coreShare c)
  have h2 : (lLoc d ↦{coreShare c} ml d : sProp 𝕄) = bigSep Finset.univ fun s : Fin 16 => lLoc d ↦{tileShare c s} ml d :=
    Transfers.pointsTo_deal (Finset.univ : Finset (Fin 16)) Finset.univ_nonempty (coreShare c)
  have h3 : (oLoc d ↦[coreSet c]{fullShare} f : sProp 𝕄) = bigSep Finset.univ fun s : Fin 16 => oLoc d ↦[tileSet c s]{fullShare} f :=
    pointsTo_biUnion Finset.univ (ℓ := oLoc d) (tileSet c) (tiles_disjoint c)
  unfold CoreP
  rw [h1, h2, h3]
  exact ((BI.bigSep_sep Finset.univ _ _).trans (congrArg (fun Q => BI.sep _ Q) (BI.bigSep_sep Finset.univ _ _))).symm

/-- What the call's handshakes carry: each SparseCore's part and each tile's, and back with the result gathered. -/
def P : (K (F := F)).Pay (nD := nD) (Val := Elt F) (Name := ℕ) (U := UU) where
  st := fun q d c => match q with | 0 => CoreP pv ml d (f0 d) c
  dn := fun q d c => match q with | 0 => CoreP pv ml d (gath (pv d) (ml d)) c
  go := fun q d c i => match q with | 0 => TileP pv ml d (f0 d) c i
  td := fun q d c i => match q with | 0 => TileP pv ml d (gath (pv d) (ml d)) c i
  x := fun _ _ => iprop(emp)

instance P_storable : (P pv ml f0).IsStorable where
  st q d c := match q with | 0 => CoreP_storable pv ml d (f0 d) c
  dn q d c := match q with | 0 => CoreP_storable pv ml d (gath (pv d) (ml d)) c
  go q d c i := match q with | 0 => TileP_storable pv ml d (f0 d) c i
  td q d c i := match q with | 0 => TileP_storable pv ml d (gath (pv d) (ml d)) c i

theorem vecSplit : (K (F := F)).VecSplit' (P pv ml f0) 0 := by
  intro d c
  show (CoreP pv ml d (f0 d) c : sProp 𝕄) ⊢ |={Set.univ}=> iprop((bigSep Finset.univ (TileP pv ml d (f0 d) c))
    ∗ ((bigSep Finset.univ (TileP pv ml d (gath (pv d) (ml d)) c)) -∗ CoreP pv ml d (gath (pv d) (ml d)) c))
  rw [core_tiles, core_tiles]
  iintro H; imodintro
  isplitl [H]; · iexact H
  iintro H; iexact H

/-! ## A tile's task is its body -/

theorem defs₀_vector (c : Fin τ.nSC) (s : Fin τ.nSub) :
    defs₀ (F := F) (.scVector c s) 0 ()
      = SparseCore.onTile hcore0 hsub0 (fun c s => cc0_sc_gather (coords c s)
          pV (Memref.isWhole_whole _) lV (Memref.isWhole_whole _) oV (Memref.isWhole_whole _)
          sL (Memref.isWhole_whole _) sB (Memref.isWhole_whole _) sG (Memref.isWhole_whole _) cc0_scratch3 cc0_scoped0 cc0_scoped1) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_emp {A B : sProp 𝕄} : iprop(A ∗ emp ∗ B) ⊢ iprop(A ∗ B) := by
  iintro ⟨HA, -, HB⟩
  isplitl [HA] <;> iassumption

theorem tileObl (hml : ∀ d p, (ml d p).toNat < 100000) : (K (F := F)).TileObl (D (F := F)) 𝒱 (P pv ml f0) v₀ 0 := by
  intro d c i O W hO _ _
  simp only [show (P pv ml f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact drop_emp.trans ((tile_body d (coords ⟨_, hc.1⟩ ⟨_, hc.2⟩) facts O W hO (pv d) (ml d) (f0 d) (hml d) (tileShare c i) (tileShare c i)).trans
    (wp_mono frame _ _ fun _ => weaken_waits))

end Cert.Proof.Gather

end
-- ==== Proof.Finish.lean ====
/-
  The TensorCore call: the gathered scores and the mask staged in vector memory, the quotient of the two sums written back.
  Its body's run, and the value of the array it leaves.
-/
module

public import proofs.«01_k».proof.Proof.Setup
public import proofs.«01_k».proof.Proof.Gen.KernelIdeal.Points
public import Idealize.ShloMosaic.Lib.Pipeline.RegionsLoop
public import Idealize.ShloMosaic.Lib.VecWindow

@[expose] public section

noncomputable section

namespace Cert.Proof.Gather

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MM F

/-! ## The body -/

abbrev gM : Memref sig .tc .vmem S8x128 .f32 := stage1_0 0
abbrev mM : Memref sig .tc .vmem S8x128 .f32 := stage1_1 0
abbrev rM : Memref sig .tc .vmem S1x1 .f32 := stage1_2 0

/-- The last store fills the third buffer. -/
theorem stored (r w : Vec F S1x1 .f32) (h) : (rM.access (Rect.unit (s := S1x1) ![0, 0] S1x1.size h)).write (Elt F) r w Finset.univ = w :=
  View.read_writes_full rM.view r h w []

/-- From the three staging buffers held whole, the body leaves the first two as they were and the quotient in the third. -/
theorem finish_body (c : Dev nD) (g : Vec F S8x128 .f32) (mk : Vec F S8x128 .f32) (r : Vec F S1x1 .f32) (E : Set ℕ) (Q : PUnit → sProp 𝕄) :
    iprop((gM.view.loc (c : Thread nD τ) ↦{fullShare} g) ∗ (mM.view.loc (c : Thread nD τ) ↦{fullShare} mk) ∗ (rM.view.loc (c : Thread nD τ) ↦{fullShare} r)
        ∗ (iprop((gM.view.loc (c : Thread nD τ) ↦{fullShare} g) ∗ (mM.view.loc (c : Thread nD τ) ↦{fullShare} mk)
            ∗ (rM.view.loc (c : Thread nD τ) ↦{fullShare} k1_pay1 g mk)) -∗ Q ⟨⟩))
      ⊢ wp frame (wpE (defs₀ (F := F)) 𝒱₀ c none) E (cc1__tc_finalize gM (hstage1_0 0) mM (hstage1_1 0) rM (hstage1_2 0)) Q := by
  rw [cc1__tc_finalize_eq_skeleton]
  have hg : gM.view.readAt (Elt F) (Rect.unit (s := S8x128) ![0, 0] S8x128.size inb_S8x128_S8x128_0_0).toLoadRect g = g :=
    View.readAt_full gM.view g inb_S8x128_S8x128_0_0
  have hm : mM.view.readAt (Elt F) (Rect.unit (s := S8x128) ![0, 0] S8x128.size inb_S8x128_S8x128_0_0).toLoadRect mk = mk :=
    View.readAt_full mM.view mk inb_S8x128_S8x128_0_0
  have hr := fun h => congrArg (fun f => (rM.view.loc (c : Thread nD τ) ↦{fullShare} f : sProp 𝕄)) (stored r (k1_pay1 (gM.view.readAt (Elt F) (Rect.unit (s := S8x128) ![0, 0] S8x128.size inb_S8x128_S8x128_0_0).toLoadRect g)
    (mM.view.readAt (Elt F) (Rect.unit (s := S8x128) ![0, 0] S8x128.size inb_S8x128_S8x128_0_0).toLoadRect mk)) h)
  have hr' := (hr inb_S1x1_S1x1_0_0).trans (congrArg₂ (fun a b => (rM.view.loc (c : Thread nD τ) ↦{fullShare} k1_pay1 a b : sProp 𝕄)) hg hm)
  unfold cc1__tc_finalize_skel
  simp only [Prog.lift, Prog.bind_op, Prog.bind_ret, Prog.pure_eq_ret]
  iintro ⟨H0, H1, H2, Hk⟩
  iapply (wp_load 𝒱₀ (c : Thread nD τ) none E (m := gM) (S := Finset.univ) (Finset.subset_univ _)) $$ H0; iintro H0
  iapply (wp_load 𝒱₀ (c : Thread nD τ) none E (m := mM) (S := Finset.univ) (Finset.subset_univ _)) $$ H1; iintro H1
  iapply (wp_load 𝒱₀ (c : Thread nD τ) none E (m := rM) (S := Finset.univ) (Finset.subset_univ _)) $$ H2; iintro H2
  iapply (wp_store 𝒱₀ (c : Thread nD τ) none E (m := rM) (r := Rect.unit (s := S1x1) ![0, 0] S1x1.size inb_S1x1_S1x1_0_0) (S := Finset.univ) (Finset.subset_univ _)) $$ H2; iintro H2
  ihave H2 := (Entails.of_eq hr') $$ H2
  rw [wp_ret]; imodintro
  iapply Hk
  isplitl [H0]; · iexact H0
  isplitl [H1]; · iexact H1
  iexact H2

end Cert.Proof.Gather

end
-- ==== Proof.Region.lean ====
/-
  The TensorCore call as a region of @main: entered with every array of the device at a valuation, left with the quotient's
  array at the quotient and every other as it was.
-/
module

public import proofs.«01_k».proof.Proof.Finish
public import Idealize.ShloMosaic.Lib.Pipeline.Value

@[expose] public section

noncomputable section

namespace Cert.Proof.Gather

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MM F

/-- The pairs a TensorCore has recorded once the SparseCore call is over: none above the call's levels. -/
def seen (c : Dev nD) : Set (SemLoc sig × HIx 1) := {p | (K (F := F)).lev ((c : Thread nD τ), p.1) p.2 ≤ 8 * Blocks.fst (Q := 1) (N := 1) 1}

variable (V : (c : Dev nD) → (b : Ref sig .tc) → Buf (Elt F) ((c : Thread nD τ).loc b))

/-- The region's proof data from valuation `V`: the three arrays at `V`; after the body the first two staged blocks as
    fetched and the third the quotient; nothing owed. -/
def dat (c : Dev nD) : Dat τ (Elt F) (HIx 1) ℕ UU ℕ cfg1 c where
  A w := V c (Pipeline.arrRef spec1 w)
  after w _ := match w with
    | ⟨0, _⟩ => V c main_v3
    | ⟨1, _⟩ => V c main_v4
    | ⟨2, _⟩ => k1_pay1 (V c main_v3) (V c main_v4)
  Φ _ := iprop(emp)
  q _ := fullShare
  owed _ := 0
  recorded _ := seen (F := F) c

/-- Each window's one block is its whole array. -/
theorem emb_0 (i : S8x128.Idx) : ((cfg1.win 0).blk t1_0).view.emb i = i :=
  funext fun a => Fin.ext ((win1_0.rect_emb_val t1_0 i a).trans (Nat.zero_mul _ ▸ Nat.zero_add _))
theorem emb_1 (i : S8x128.Idx) : ((cfg1.win 1).blk t1_0).view.emb i = i :=
  funext fun a => Fin.ext ((win1_1.rect_emb_val t1_0 i a).trans (Nat.zero_mul _ ▸ Nat.zero_add _))
theorem emb_2 (i : S1x1.Idx) : ((cfg1.win 2).blk t1_0).view.emb i = i :=
  funext fun a => Fin.ext ((win1_2.rect_emb_val t1_0 i a).trans (Nat.zero_mul _ ▸ Nat.zero_add _))

theorem before_0 (c : Dev nD) (d : (cfg1.win 0).block.Idx → Elt F (cfg1.win 0).elt) : (dat V c).before 0 t1_0 d = V c main_v3 := by
  unfold Dat.before; rw [if_pos (by decide)]
  exact funext fun i => congrArg (V c main_v3) (emb_0 i)
theorem before_1 (c : Dev nD) (d : (cfg1.win 1).block.Idx → Elt F (cfg1.win 1).elt) : (dat V c).before 1 t1_0 d = V c main_v4 := by
  unfold Dat.before; rw [if_pos (by decide)]
  exact funext fun i => congrArg (V c main_v4) (emb_1 i)

/-- What the region leaves in the quotient's array. -/
theorem arr_end (c : Dev nD) : (dat V c).arrAt 2 cfg1.N = k1_pay1 (V c main_v3) (V c main_v4) := by
  funext i
  refine (dat V c).arrAt_apply_of_mem 2 (k1_pay1 (V c main_v3) (V c main_v4)) (fun t _ => ?_) cfg1.N t1_0 i t1_0.isLt (flush1_2 _) ?_
  · obtain rfl := fin_N1 t
    exact funext fun i => (congrArg (k1_pay1 (V c main_v3) (V c main_v4)) (emb_2 i)).symm
  · exact Finset.mem_map.mpr ⟨i, Finset.mem_univ _, emb_2 i⟩

/-- The body's obligation at the one point. -/
theorem finish_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = iprop(emp) from rfl, show (dat V c).Φ t1_0.succ = iprop(emp) from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, -, H2⟩⟩
  rw [before_0] at hf0
  rw [before_1] at hf1
  subst hf0
  subst hf1
  iapply (finish_body c (V c main_v3) (V c main_v4) f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The region -/

variable (adm : (p : Fin 1) → (pcfgs (F := F) p).Adm)

/-- The proof data of the program's one pipeline. -/
def pdats : (p : Fin 1) → (c : Dev nD) → Dat τ (Elt F) (HIx 1) ℕ UU ℕ (Pipeline.pin (pcfgs (F := F)) adm p) c
  | ⟨0, _⟩ => fun c => dat V c

/-- The valuation after the region: the quotient's array at the quotient. -/
def after (c : Dev nD) : (b : Ref sig .tc) → Buf (Elt F) ((c : Thread nD τ).loc b) :=
  Function.update (V c) main_v5 (k1_pay1 (V c main_v3) (V c main_v4))

/-- What the core owes around the region: nothing, and what it has recorded is within `B`. -/
abbrev idle (c : Dev nD) (B : Set (SemLoc sig × HIx 1)) : sProp 𝕄 :=
  Pipeline.owesWithin c (0 : CellTallies nD τ sig (HIx 1)) B

set_option backward.isDefEq.respectTransparency.types false in
/-- The region over the device's arrays. -/
def reg : Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (finish_obligation V c).loose
  hwaits := Pipeline.hwaits_of_owed_zero _ _ _ _ _ _ 0 fun _ _ => rfl
  pre c := iprop(unscopedBufs c (V c) ∗ idle (F := F) c (seen (F := F) c))
  post c := iprop(unscopedBufs c (after V c) ∗ idle (F := F) c (seen (F := F) c ∪ cfg1.waitPairs none))
  X _ := iprop(emp)
  Y _ := iprop(emp)
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW hp)
      iexact HO
    isplitr; · iempintro
    iexact Hrest
  hin c := by
    rw [show (pdats V adm 0 c).Φ 0 = iprop(emp) from rfl]
    iintro -; iempintro
  hout c := by
    rw [Pipeline.ownSems0_none, show Pipeline.scopedRest (Pipeline.pin (pcfgs (F := F)) adm 0).spec c = (BI.emp : sProp 𝕄) from scopedRest1_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (after V c) ((pdats V adm 0 c).arrAt · cfg1.N)
      (fun w => by
        fin_cases w
        · exact ((pdats V adm 0 c).arrAt_in 0 rfl _).trans (Function.update_of_ne (by decide : main_v3 ≠ main_v5) _ _).symm
        · exact ((pdats V adm 0 c).arrAt_in 1 rfl _).trans (Function.update_of_ne (by decide : main_v4 ≠ main_v5) _ _).symm
        · exact (arr_end V c).trans (Function.update_self main_v5 _ (V c)).symm)
      (fun b hb => Function.update_of_ne (fun h : b = main_v5 => hb (h ▸ Finset.mem_image.mpr ⟨2, Finset.mem_univ _, rfl⟩)) _ _)
    iintro ⟨Ha, ⟨%W, %hW, HO⟩, -, Hrest⟩
    imodintro
    isplitl [Ha Hrest]
    · iapply hjoin; isplitl [Ha] <;> iassumption
    iexists W; isplitr; · ipureintro; exact hW
    iexact HO

end Cert.Proof.Gather

end
-- ==== Proof.Main.lean ====
/-
  @main on the TensorCore: two reshapes, the SparseCore call, two reshapes, the TensorCore call, the last reshape — every
  array of the device held at a valuation, followed from stage to stage.
-/
module

public import proofs.«01_k».proof.Proof.Deal
public import proofs.«01_k».proof.Proof.Region

@[expose] public section

noncomputable section

namespace Cert.Proof.Gather

open Cert.KernelIdeal Cert.KernelIdeal.Gen
open Idealize.ShloMosaic
open Idealize.ShloMosaic.TcCoe
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_congr held_sub_split wp_hlo_within)

variable {F : FTy → Type} [FloatOps F]

local notation "𝕄" => MM F

/-! ## The arrays, stage by stage -/

abbrev Val (F : FTy → Type) : Type := Valuation τ sig (Elt F)

/-- The five reshapes. -/
abbrev op0 : HloOp τ sig (Elt F) := StableHlo.reshape main_arg0 main_v0 (rfl : (.f32 : EltTy) = .f32) shapeCasts_S32x32x100000_S128x8x100000
abbrev op1 : HloOp τ sig (Elt F) := StableHlo.reshape main_arg1 main_v1 (rfl : (.i32 : EltTy) = .i32) shapeCasts_S32x32_S1024
abbrev op3 : HloOp τ sig (Elt F) := StableHlo.reshape main_v2 main_v3 (rfl : (.f32 : EltTy) = .f32) shapeCasts_S1024_S8x128
abbrev op4 : HloOp τ sig (Elt F) := StableHlo.reshape main_arg2 main_v4 (rfl : (.f32 : EltTy) = .f32) shapeCasts_S32x32_S8x128
abbrev op6 : HloOp τ sig (Elt F) := StableHlo.reshape main_v5 main_v6 (rfl : (.f32 : EltTy) = .f32) shapeCasts_S1x1_S_

/-- The valuation before the SparseCore call, after it, before the TensorCore call, after it, and at the end. -/
def before₁ (W : Val F) : Val F := (op1 (F := F)).result ((op0 (F := F)).result W)
def after₁ (W : Val F) : Val F := Function.update W ↑main_v2 (gath (F := F) (W ↑main_v0) (W ↑main_v1))
def before₂ (W : Val F) : Val F := (op4 (F := F)).result ((op3 (F := F)).result W)
def after₂ (W : Val F) : Val F := Function.update W ↑main_v5 (k1_pay1 (F := F) (W ↑main_v3) (W ↑main_v4))
def last (W : Val F) : Val F := (op6 (F := F)).result W

/-- The TensorCore's arrays. -/
def tcArrays : Finset (DevRef τ sig) := (StableHlo.tcRefs τ sig).filter fun b => ¬ b.isScoped

theorem unscoped_held (c : Dev nD) (W : Val F) :
    (unscopedBufs c (fun b => W b) : sProp 𝕄) = held (c : Thread nD τ) tcArrays W := by
  unfold unscopedBufs held tcArrays StableHlo.tcRefs
  rw [Finset.filter_map, bigSep_map]
  rfl

theorem update_ref (c : Dev nD) (W : Val F) : after (F := F) (fun _ b => W b) c = fun b : Ref sig .tc => after₂ W b := by
  funext b
  unfold after after₂
  by_cases h : b = main_v5
  · subst h; exact (Function.update_self _ _ _).trans (Function.update_self (↑main_v5 : DevRef τ sig) _ W).symm
  · exact (Function.update_of_ne h _ _).trans (Function.update_of_ne (fun e => h (Proc.devRef_injective _ e)) _ W).symm

/-- The SparseCore call's three arrays. -/
def callArrays : Finset (DevRef τ sig) := {(↑main_v0 : DevRef τ sig), ↑main_v1, ↑main_v2}
theorem call_sub : callArrays ⊆ tcArrays := by decide

theorem held_call (pv : Dev nD → Vec F S128x8x100000 .f32) (ml : Dev nD → IVec S1024 32) (d : Dev nD) (W : Val F) (hp : W ↑main_v0 = pv d) (hl : W ↑main_v1 = ml d) :
    (held (T d) callArrays W : sProp 𝕄) = WholeP pv ml d (W ↑main_v2) := by
  unfold held callArrays WholeP
  rw [SparseCore.bigSep_insert' (by decide), SparseCore.bigSep_insert' (by decide), bigSep_singleton, hp, hl]

theorem held_rest (d : Dev nD) (W : Val F) : (held (T d) (tcArrays \ callArrays) (after₁ W) : sProp 𝕄) = held (T d) (tcArrays \ callArrays) W :=
  held_congr (T d) fun b hb => Function.update_of_ne (fun h : b = ↑main_v2 => (Finset.mem_sdiff.mp hb).2 (h ▸ by decide)) _ _

/-! ## The launch's ghost state -/

def adm : (p : Fin 1) → (pcfgs (F := F) p).Adm := fun _ => ⟨fun k => k.elim0, trivial⟩

def u₀ : UU := (initOf (K (F := F)).hsCells (K (F := F)).hsToks, (initOf (Pipeline.cells cfgs cellOf_inj) (Pipeline.launchToks cfgs cellOf_inj), 1))

/-- What @main is handed beside its arrays: the TensorCore call's ghost state. -/
def G (d : Dev nD) : sProp 𝕄 := iprop(Pipeline.cellsGhost cfgs EP 0 d ∗ Pipeline.toksInit cfgs EP 0 d)

theorem ownU_both (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem one_pipe (Φ : Fin 1 → sProp 𝕄) : bigSep Finset.univ Φ = Φ 0 := bigSep_univ_of_subsingleton (0 : Fin 1)

theorem hu₀ (pv : Dev nD → Vec F S128x8x100000 .f32) (ml : Dev nD → IVec S1024 32) (f0 : Dev nD → Vec F S1024 .f32) :
    (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P pv ml f0).x q thr) := by
  have hx : (bigSep Finset.univ fun thr : Thread nD τ => bigSep Finset.univ fun q : Fin 1 => (P pv ml f0).x q thr) = (iprop(emp) : sProp 𝕄) := by
    show (bigSep Finset.univ fun _ : Thread nD τ => bigSep Finset.univ fun _ : Fin 1 => (iprop(emp) : sProp 𝕄)) = _
    exact (bigSep_congr fun _ _ => bigSep_emp_const _).trans (bigSep_emp_const _)
  have hG : iprop((bigSep Finset.univ fun c : Dev nD => bigSep Finset.univ fun p : Fin 1 => Pipeline.cellsGhost cfgs EP p c)
      ∗ (bigSep Finset.univ fun c : Dev nD => bigSep Finset.univ fun p : Fin 1 => Pipeline.toksInit cfgs EP p c)) ⊢ (bigSep Finset.univ (G (F := F)) : sProp 𝕄) := by
    simp only [one_pipe]
    exact Entails.of_eq rfl
  unfold u₀
  rw [hx]
  iintro Hu
  ihave H := (ownU_both _ _) $$ Hu
  icases H with ⟨HH, HP⟩
  imod (Pipeline.fund_ghost cfgs EP cellOf_inj) $$ HP with Hg
  imodintro
  isplitl [HH]; · iexact HH
  isplitl [Hg]; · iapply hG; iexact Hg
  iempintro

/-! ## @main -/

/-- What every TensorCore owes once the call is over: nothing. -/
theorem owes_none (d : Dev nD) : (K (F := F)).Otc d 1 = (0 : CellTallies nD τ sig (HIx 1)) := by
  unfold SparseCore.Cfg.Otc; exact Finset.sum_eq_zero fun q _ => if_neg (by have := q.isLt; omega)

variable (m : (ℓ : Loc nD τ sig) → Buf (Elt F) ℓ)

/-- The valuations of each device from the launch's memory. -/
def W0 (d : Dev nD) : Val F := fun b => m (d, b)
def W1 (d : Dev nD) : Val F := before₁ (W0 m d)
def W2 (d : Dev nD) : Val F := before₂ (after₁ (W1 m d))
def W3 (d : Dev nD) : Val F := last (after₂ (W2 m d))

abbrev pvOf (d : Dev nD) : Vec F S128x8x100000 .f32 := W1 m d ↑main_v0
abbrev mlOf (d : Dev nD) : IVec S1024 32 := W1 m d ↑main_v1
abbrev f0Of (d : Dev nD) : Vec F S1024 .f32 := W1 m d ↑main_v2

/-- The call's payloads from the launch's memory. -/
abbrev PM := P (pvOf m) (mlOf m) (f0Of m)

theorem sub0 : (op0 (F := F)).bufs ⊆ tcArrays := show ({(↑main_arg0 : DevRef τ sig), ↑main_v0} : Finset _) ⊆ tcArrays by decide
theorem sub1 : (op1 (F := F)).bufs ⊆ tcArrays := show ({(↑main_arg1 : DevRef τ sig), ↑main_v1} : Finset _) ⊆ tcArrays by decide
theorem sub3 : (op3 (F := F)).bufs ⊆ tcArrays := show ({(↑main_v2 : DevRef τ sig), ↑main_v3} : Finset _) ⊆ tcArrays by decide
theorem sub4 : (op4 (F := F)).bufs ⊆ tcArrays := show ({(↑main_arg2 : DevRef τ sig), ↑main_v4} : Finset _) ⊆ tcArrays by decide
theorem sub6 : (op6 (F := F)).bufs ⊆ tcArrays := show ({(↑main_v5 : DevRef τ sig), ↑main_v6} : Finset _) ⊆ tcArrays by decide

/-- The arrays split at the SparseCore call: what the SparseCores are given, and the rest. -/
theorem give (d : Dev nD) : (held (T d) tcArrays (W1 m d) : sProp 𝕄)
    = iprop((bigSep Finset.univ fun c : Fin ((K (F := F)).nCore 0) => (PM m).st 0 d c) ∗ held (T d) (tcArrays \ callArrays) (W1 m d)) := by
  rw [held_sub_split (T d) call_sub, held_call (pvOf m) (mlOf m) d (W1 m d) rfl rfl, whole_cores]
  rfl
theorem take (d : Dev nD) : (held (T d) tcArrays (after₁ (W1 m d)) : sProp 𝕄)
    = iprop((bigSep Finset.univ fun c : Fin ((K (F := F)).nCore 0) => (PM m).dn 0 d c) ∗ held (T d) (tcArrays \ callArrays) (W1 m d)) := by
  rw [held_sub_split (T d) call_sub, held_rest, held_call (pvOf m) (mlOf m) d (after₁ (W1 m d))
      (Function.update_of_ne (by decide) _ _) (Function.update_of_ne (by decide) _ _),
    show after₁ (W1 m d) ↑main_v2 = gath (pvOf m d) (mlOf m d) from Function.update_self (↑main_v2 : DevRef τ sig) _ _, whole_cores]
  rfl

theorem regroup {b h h' u u' o o' l g t q w : sProp 𝕄} (hu : h ⊢ u) (hu' : u' ⊢ h') (hq : q ⊢ w) :
    iprop((iprop(b ∗ h' ∗ o') -∗ q) ∗ b ∗ h ∗ o ∗ l ∗ g ∗ t) ⊢ iprop((iprop(b ∗ iprop(u' ∗ o')) -∗ w) ∗ b ∗ iprop(u ∗ o) ∗ l ∗ g ∗ t) := by
  iintro ⟨Hk, Hb, Hh, HO, Hl, Hg, Ht⟩
  isplitl [Hk]
  · iintro ⟨Hb, Hu, HO⟩
    iapply hq
    iapply Hk
    isplitl [Hb]; · iexact Hb
    isplitl [Hu]; · iapply hu'; iexact Hu
    iexact HO
  isplitl [Hb]; · iexact Hb
  isplitl [Hh HO]
  · isplitl [Hh]; · iapply hu; iexact Hh
    iexact HO
  isplitl [Hl]; · iexact Hl
  isplitl [Hg] <;> iassumption

theorem wp_done (d : Dev nD) (Q : PUnit → sProp 𝕄) :
    Q ⟨⟩ ⊢ wp frame (wpE (D (F := F)) 𝒱 (T d) none) Set.univ (.ret ⟨⟩) Q := by
  iintro H
  rw [wp_ret]; imodintro; iexact H

/-- The TensorCore call, inside @main's program. -/
theorem wp_region (d : Dev nD) (W : Val F) (Q : PUnit → sProp 𝕄) :
    iprop((iprop(boundary (T d) ∗ held (T d) tcArrays (after₂ W) ∗ idle (F := F) d (seen (F := F) d ∪ cfg1.waitPairs none)) -∗ Q ⟨⟩)
        ∗ boundary (T d) ∗ held (T d) tcArrays W ∗ idle (F := F) d (seen (F := F) d) ∗ levAts (K (F := F)).L (K (F := F)).lev ∗ G (F := F) d)
      ⊢ wp frame (wpE ((K (F := F)).defs (D (F := F))) 𝒱 (T d) none) Set.univ
          (Prog.lift (.customCall (SparseCore.inner (Pipeline.entry 0)) ())) Q := by
  have hl := (K (F := F)).wp_liftProg (D (F := F)) 𝒱 (T d) Set.univ none (.op (.customCall (Pipeline.entry 0) ()) fun _ => .ret ⟨⟩) Q
  rw [SparseCore.liftProg_op] at hl
  refine BI.Entails.trans ?_ hl
  have h := Pipeline.RegionSeg.wp (pcfgs (F := F)) adm (pdats (fun _ b => W b) adm) none cellOf_inj EP defs₀ 𝒱₀ (K (F := F)).L (K (F := F)).lev
    (reg (fun _ b => W b) adm) d none (fun u hu => nomatch hu) (fun _ => .ret ⟨⟩) Q
  exact (regroup (Entails.of_eq (unscoped_held d W).symm)
    (Entails.of_eq ((congrArg (fun V => (unscopedBufs d V : sProp 𝕄)) (update_ref d W)).trans (unscoped_held d (after₂ W)))) (wp_done d Q)).trans h

end Cert.Proof.Gather

end
-- ==== Proof.Run.lean ====
/-
  The program's run: @main's steps in order over the arrays' valuation, and what the final memory then says.
-/
module

public import proofs.«01_k».proof.Proof.Main

@[expose] public section

noncomputable section

namespace Cert.Proof.Gather

open Cert.KernelIdeal Cert.KernelIdeal.Gen
open Idealize.ShloMosaic
open Idealize.ShloMosaic.TcCoe
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_congr held_sub_split wp_hlo_within)

variable {F : FTy → Type} [FloatOps F]

local notation "𝕄" => MM F

variable (m : (ℓ : Loc nD τ sig) → Buf (Elt F) ℓ) (ρ : Dev nD → PrngReg)

/-- After the SparseCore call the TensorCore owes nothing; whatever it waits for inside the TensorCore call sits below every
    level of the launch. -/
theorem tcSt_open (d : Dev nD) : ((K (F := F)).tcSt EH d 1 : sProp 𝕄)
    ⊢ iprop(idle (F := F) d (seen (F := F) d) ∗ (idle (F := F) d (seen (F := F) d ∪ cfg1.waitPairs none) -∗ (K (F := F)).tcSt EH d 1)) := by
  unfold SparseCore.Cfg.tcSt
  rw [owes_none]
  iintro ⟨⟨%W, %hW, HO⟩, Hrest⟩
  isplitl [HO]
  · iexists W; isplitr
    · ipureintro; exact fun p hp => hW p hp
    · iexact HO
  iintro ⟨%W', %hW', HO⟩
  isplitl [HO]
  · iexists W'; isplitr
    · ipureintro
      intro p hp
      rcases hW' hp with h | ⟨w, s, rfl⟩
      · exact h
      · exact Nat.zero_le _
    · iexact HO
  iexact Hrest

/-- What @main ends with: every array at its last valuation. -/
def FIN (d : Dev nD) : sProp 𝕄 := held (T d) tcArrays (W3 m d)

theorem unscoped_start (d : Dev nD) : (unscopedBufs d (fun b => m ((SparseCore.T d).loc b)) : sProp 𝕄) = held (T d) tcArrays (W0 m d) :=
  unscoped_held d (W0 m d)

theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_start]
  simp only [main, wp_bind, wp_pure]
  iintro ⟨#Hctx, Hst, ⟨Hb, Hheld, Hts, -⟩, HG⟩
  iapply (wp_hlo_within 𝒱 (T d) none Set.univ (op := op0) (S := tcArrays) sub0 (V := W0 m d)) $$ [Hb Hheld]
  · isplitl [Hb] <;> iassumption
  iintro ⟨Hb, Hheld⟩
  rw [wp_ret]; imodintro
  iapply (wp_hlo_within 𝒱 (T d) none Set.univ (op := op1) (S := tcArrays) sub1 (V := op0.result (W0 m d))) $$ [Hb Hheld]
  · isplitl [Hb] <;> iassumption
  iintro ⟨Hb, Hheld⟩
  rw [wp_ret]; imodintro
  ihave Hheld := (show (held (T d) tcArrays (op1.result (op0.result (W0 m d))) : sProp 𝕄) ⊢ _ from Entails.of_eq (give m d)) $$ Hheld
  icases Hheld with ⟨Hcall, Hrest⟩
  iapply ((K (F := F)).wp_run (D (F := F)) 𝒱 (EH := EH) (P := PM m) κ d 0) $$ [Hst Hcall Hrest Hb Hts HG]
  isplitr; · iexact Hctx
  isplitl [Hst]; · iexact Hst
  isplitl [Hcall]; · iexact Hcall
  iintro ⟨Hst, Hdn⟩
  ihave Hheld := (Entails.of_eq (take m d).symm) $$ [Hdn Hrest]
  · isplitl [Hdn] <;> iassumption
  iapply (wp_hlo_within 𝒱 (T d) none Set.univ (op := op3) (S := tcArrays) sub3 (V := after₁ (W1 m d))) $$ [Hb Hheld]
  · isplitl [Hb] <;> iassumption
  iintro ⟨Hb, Hheld⟩
  rw [wp_ret]; imodintro
  iapply (wp_hlo_within 𝒱 (T d) none Set.univ (op := op4) (S := tcArrays) sub4 (V := op3.result (after₁ (W1 m d)))) $$ [Hb Hheld]
  · isplitl [Hb] <;> iassumption
  iintro ⟨Hb, Hheld⟩
  rw [wp_ret]; imodintro
  ihave Hst := (show ((K (F := F)).tcSt EH d ((0 : Fin 1).val + 1) : sProp 𝕄) ⊢ _ from tcSt_open d) $$ Hst
  icases Hst with ⟨HO, Hback⟩
  ihave Hlv := (ctx_levAts κ) $$ Hctx
  ihave Hheld := (show (held (T d) tcArrays (op4.result (op3.result (after₁ (W1 m d)))) : sProp 𝕄) ⊢ held (T d) tcArrays (W2 m d) from .rfl) $$ Hheld
  iapply (wp_region d (W2 m d)) $$ [Hb Hheld HO Hback Hlv HG Hts]
  isplitl [Hback Hts]
  · iintro ⟨Hb, Hheld, HO⟩
    iapply (wp_hlo_within 𝒱 (T d) none Set.univ (op := op6) (S := tcArrays) sub6 (V := after₂ (W2 m d))) $$ [Hb Hheld]
    · isplitl [Hb] <;> iassumption
    iintro ⟨Hb, Hheld⟩
    rw [wp_ret]; imodintro
    imodintro
    isplitl [HO Hback]
    · iapply Hback; iexact HO
    isplitl [Hheld]
    · iapply (show (held (T d) tcArrays (op6.result (after₂ (W2 m d))) : sProp 𝕄) ⊢ FIN m d from .rfl); iexact Hheld
    isplitl [Hb] <;> iassumption
  isplitl [Hb]; · iexact Hb
  isplitl [Hheld]; · iexact Hheld
  isplitl [HO]; · iexact HO
  isplitl [Hlv] <;> iassumption

/-- What the final memory says of each of the TensorCore's arrays. -/
def fq (d : Dev nD) (s' : Phys nD τ sig (Elt F)) : Prop := ∀ b ∈ tcArrays, s'.mem.mem (d, b) = W3 m d b

theorem hfin (d : Dev nD) (s' : Phys nD τ sig (Elt F)) : iprop(FIN m d ∗ SI s') ⊢ (⌜fq m d s'⌝ : sProp 𝕄) := by
  have one : ∀ b ∈ tcArrays, iprop(FIN m d ∗ SI s') ⊢ (⌜s'.mem.mem (d, b) = W3 m d b⌝ : sProp 𝕄) := by
    intro b hb
    unfold FIN held
    iintro ⟨H, HSI⟩
    ihave Hb := (show _ ⊢ (((d, b) : Loc nD τ sig) ↦[Finset.univ]{fullShare} W3 m d b : sProp 𝕄) from
      bigSep_elim (Φ := fun b : DevRef τ sig => (((d, b) : Loc nD τ sig) ↦[Finset.univ]{fullShare} W3 m d b : sProp 𝕄)) hb) $$ H
    ihave H := (SI_pointsTo_agree (st := s') (ℓ := (d, b)) (I := Finset.univ) (q := fullShare) (f := W3 m d b)) $$ [HSI Hb]
    · isplitl [HSI] <;> iassumption
    icases H with %h
    ipureintro; exact funext fun i => h i (Finset.mem_univ i)
  exact fun x hx b hb => one b hb x hx

def QC : PUnit × MemSt nD τ sig (Elt F) → Prop := fun r => (∀ d : Dev nD, ∀ b ∈ tcArrays, r.2.mem (d, b) = W3 m d b) ∧ r.2.sem = fun _ => 0

/-- Every run of the program ends, every array of the TensorCore at its last valuation and every counter at zero. -/
theorem run_arrays [∀ e, Nonempty (Elt F e)] (hml : ∀ d p, (mlOf m d p).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (pvOf m) (mlOf m) (f0Of m) hml)
    (fun q _ => match q with | 0 => SparseCore.Cfg.VecSplit.of_plain (vecSplit (pvOf m) (mlOf m) (f0Of m)))
    m ρ main (G (F := F)) (FIN m) (u₀ (F := F)) (sep_elim_left.trans (hu₀ (pvOf m) (mlOf m) (f0Of m))) (hmain m ρ) (fq m) (hfin m) (QC m) (fun _ h hz => ⟨h, hz⟩)

end Cert.Proof.Gather

end
-- ==== Proof.Final.lean ====
/-
  The last valuation read back: the arguments are unchanged, and the result is the quotient of the gathered array and the
  mask, each reshaped to eight rows of 128.
-/
module

public import proofs.«01_k».proof.Proof.Run

@[expose] public section

noncomputable section

namespace Cert.Proof.Gather

open Cert.KernelIdeal Cert.KernelIdeal.Gen
open Idealize.ShloMosaic
open Idealize.ShloMosaic.TcCoe
open Idealize.SL.Sem
open Idealize.ShloMosaic.StableHlo (reshape_result' reshape_result_ne')

variable {F : FTy → Type} [FloatOps F]

/-- The kernel's result from its three arguments. -/
def kernelValue (x : Vec F S32x32x100000 .f32) (l : IVec S32x32 32) (w : Vec F S32x32 .f32) : Vec F S_ .f32 :=
  shapeCast S_ (k1_pay1 (F := F)
    (shapeCast S8x128 (gath (F := F) (shapeCast S128x8x100000 x shapeCasts_S32x32x100000_S128x8x100000) (shapeCast S1024 l shapeCasts_S32x32_S1024)) shapeCasts_S1024_S8x128)
    (shapeCast S8x128 w shapeCasts_S32x32_S8x128)) shapeCasts_S1x1_S_

variable (m : (ℓ : Loc nD τ sig) → Buf (Elt F) ℓ) (ρ : Dev nD → PrngReg)

theorem after₁_ne (W : Val F) {r : Ref sig .tc} (h : r ≠ main_v2) : after₁ W ↑r = W ↑r :=
  Function.update_of_ne (fun e => h (Proc.devRef_injective _ e)) _ _
theorem after₂_ne (W : Val F) {r : Ref sig .tc} (h : r ≠ main_v5) : after₂ W ↑r = W ↑r :=
  Function.update_of_ne (fun e => h (Proc.devRef_injective _ e)) _ _
theorem after₁_at (W : Val F) : after₁ W ↑main_v2 = gath (F := F) (W ↑main_v0) (W ↑main_v1) :=
  Function.update_self (↑main_v2 : DevRef τ sig) _ W
theorem after₂_at (W : Val F) : after₂ W ↑main_v5 = k1_pay1 (F := F) (W ↑main_v3) (W ↑main_v4) :=
  Function.update_self (↑main_v5 : DevRef τ sig) _ W

theorem mlOf_eq (d : Dev nD) : mlOf m d = shapeCast S1024 (m ((d.tc : Thread nD τ).loc main_arg1) : IVec S32x32 32) shapeCasts_S32x32_S1024 := by
  unfold mlOf W1 before₁
  rw [reshape_result', reshape_result_ne' _ _ _ _ _ (by decide)]
  rfl

theorem W1_arg {r : Ref sig .tc} (d : Dev nD) (h0 : r ≠ main_v0) (h1 : r ≠ main_v1) : W1 m d ↑r = m ((d.tc : Thread nD τ).loc r) := by
  unfold W1 before₁
  rw [reshape_result_ne' _ _ _ _ _ h1, reshape_result_ne' _ _ _ _ _ h0]
  rfl

theorem W2_arg {r : Ref sig .tc} (d : Dev nD) (h0 : r ≠ main_v0) (h1 : r ≠ main_v1) (h2 : r ≠ main_v2) (h3 : r ≠ main_v3) (h4 : r ≠ main_v4) :
    W2 m d ↑r = m ((d.tc : Thread nD τ).loc r) := by
  unfold W2 before₂
  rw [reshape_result_ne' _ _ _ _ _ h4, reshape_result_ne' _ _ _ _ _ h3, after₁_ne _ h2, W1_arg m d h0 h1]

theorem W3_arg {r : Ref sig .tc} (d : Dev nD) (h0 : r ≠ main_v0) (h1 : r ≠ main_v1) (h2 : r ≠ main_v2) (h3 : r ≠ main_v3) (h4 : r ≠ main_v4)
    (h5 : r ≠ main_v5) (h6 : r ≠ main_v6) : W3 m d ↑r = m ((d.tc : Thread nD τ).loc r) := by
  unfold W3 last
  rw [reshape_result_ne' _ _ _ _ _ h6, after₂_ne _ h5, W2_arg m d h0 h1 h2 h3 h4]

theorem W1_v0 (d : Dev nD) : W1 m d ↑main_v0 = shapeCast S128x8x100000 (m ((d.tc : Thread nD τ).loc main_arg0) : Vec F S32x32x100000 .f32) shapeCasts_S32x32x100000_S128x8x100000 := by
  unfold W1 before₁
  rw [reshape_result_ne' _ _ _ _ _ (by decide), reshape_result']
  rfl

theorem W2_v3 (d : Dev nD) : W2 m d ↑main_v3 = shapeCast S8x128 (gath (F := F) (pvOf m d) (mlOf m d)) shapeCasts_S1024_S8x128 := by
  unfold W2 before₂
  rw [reshape_result_ne' _ _ _ _ _ (by decide), reshape_result', after₁_at]
  rfl

theorem W2_v4 (d : Dev nD) : W2 m d ↑main_v4 = shapeCast S8x128 (m ((d.tc : Thread nD τ).loc main_arg2) : Vec F S32x32 .f32) shapeCasts_S32x32_S8x128 := by
  unfold W2 before₂
  rw [reshape_result', reshape_result_ne' _ _ _ _ _ (by decide), after₁_ne _ (by decide), W1_arg m d (by decide) (by decide)]
  rfl

theorem W3_v6 (d : Dev nD) : W3 m d ↑main_v6
    = kernelValue (F := F) (m ((d.tc : Thread nD τ).loc main_arg0)) (m ((d.tc : Thread nD τ).loc main_arg1)) (m ((d.tc : Thread nD τ).loc main_arg2)) := by
  unfold W3 last kernelValue
  rw [reshape_result', after₂_at, W2_v3, W2_v4, ← mlOf_eq m d, ← W1_v0 m d]
  rfl

/-- Every run of the program ends with its result at `kernelValue` of the arguments, the arguments unchanged and every counter
    at zero. -/
theorem run_main [∀ e, Nonempty (Elt F e)] (hml : ∀ d p, (mlOf m d p).toNat < 100000) :
    θ_run (Cert.KernelIdeal.defs (F := F)) (Cert.KernelIdeal.threads (F := F)) ⟨m, fun _ => 0, ρ⟩ fun r =>
      (∀ c : Dev nD, r.2.mem ((c.tc : Thread nD τ).loc main_v6)
          = kernelValue (F := F) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run Cert.KernelIdeal.defs _ _).mono (fun _ h => ⟨fun c =>
    ⟨(h.1 c ↑main_v6 (by decide)).trans (W3_v6 m c),
      (h.1 c ↑main_arg0 (by decide)).trans (W3_arg m c (by decide) (by decide) (by decide) (by decide) (by decide) (by decide) (by decide)),
      (h.1 c ↑main_arg1 (by decide)).trans (W3_arg m c (by decide) (by decide) (by decide) (by decide) (by decide) (by decide) (by decide)),
      (h.1 c ↑main_arg2 (by decide)).trans (W3_arg m c (by decide) (by decide) (by decide) (by decide) (by decide) (by decide) (by decide))⟩, h.2⟩)
    (run_arrays m ρ hml)

end Cert.Proof.Gather

end
-- ==== Proof.Same.lean ====
/-
  The program as printed and the program read over the reals are one text under two names: their launches are equal, so the
  run proved of the second is a run of the first.
-/
module

public import proofs.«01_k».proof.Proof.Final
public import proofs.«01_k».proof.Kernel
public import proofs.«01_k».proof.Proof.Gen.Kernel

@[expose] public section

noncomputable section

namespace Cert.Proof.Gather

open Idealize.ShloMosaic Idealize.SL.Sem

variable {F : FTy → Type} [FloatOps F]

/-- The two kernels' body tables: on every processor, at both labels, one body. -/
theorem same_bodies : Cert.Kernel.defs₀ (F := F) = Cert.KernelIdeal.defs₀ (F := F) := by
  funext pr ℓ
  have h : ∀ ℓ : Fin 2, Cert.Kernel.defs₀ (F := F) pr ℓ = Cert.KernelIdeal.defs₀ (F := F) pr ℓ := by
    intro ℓ
    match pr, ℓ with
    | .scVector c s, 0 => rfl
    | .scVector c s, 1 => rfl
    | .tc, 0 => rfl
    | .tc, 1 => rfl
    | .scScalar c, 0 => rfl
    | .scScalar c, 1 => rfl
  exact h ℓ

theorem same_defs : Cert.Kernel.defs (F := F) = Cert.KernelIdeal.defs (F := F) :=
  congrArg (fun D => Cert.KernelIdeal.sc.defs (Pipeline.defs Cert.KernelIdeal.pcfgs D)) same_bodies

theorem same_threads : Cert.Kernel.threads (F := F) = Cert.KernelIdeal.threads (F := F) := rfl

/-- `run_main` of the program as printed. -/
theorem run_printed [∀ e, Nonempty (Elt F e)] (m : (ℓ : Loc Cert.Kernel.nD Cert.Kernel.τ Cert.Kernel.sig) → Buf (Elt F) ℓ) (ρ : Dev Cert.Kernel.nD → PrngReg)
    (hml : ∀ d p, (mlOf (F := F) m d p).toNat < 100000) :
    θ_run (Cert.Kernel.defs (F := F)) (Cert.Kernel.threads (F := F)) ⟨m, fun _ => 0, ρ⟩ fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0 := by
  rw [same_defs, same_threads]
  exact (θ_run Cert.KernelIdeal.defs _ _).mono (fun _ h => ⟨fun c => (h.1 c).2, h.2⟩) (run_main (F := F) m ρ hml)

end Cert.Proof.Gather

end
-- ==== Proof.Labels.lean ====
/-
  What the two preconditions say. Each is a conjunction over every element of an array, folded to one bit; read back, the
  labels are in range, and (for the second) no score is infinite.
-/
module

public import proofs.«01_k».proof.Proof.Final
public import proofs.«01_k».proof.Proof.Gen.Pre_labels_in_range
public import proofs.«01_k».proof.Proof.Gen.Pre_finite_pre_labels_in_range
public import Idealize.ShloMosaic.Lib.ReduceAll
public import Idealize.ShloMosaic.Lib.IdealHost

@[expose] public section

noncomputable section

namespace Cert.Proof.Gather

open Cert.KernelIdeal Cert.KernelIdeal.Gen
open Idealize.ShloMosaic
open Idealize.ShloMosaic.TcCoe

variable {F : FTy → Type} [FloatOps F]

instance : Subsingleton S_.Idx := ⟨fun _ _ => funext fun a => a.elim0⟩

/-- A word that compares at least zero and below 100000, both signed, is a label. -/
theorem label_of_bits {v : BitVec 32} (h : IntOp.andi (IntOp.cmpi .sge v 0#32) (IntOp.cmpi .slt v 100000#32) = 1#1) :
    v.toNat < 100000 := by
  obtain ⟨h0, h1⟩ := IntOp.andi_eq_one.1 h
  have h0 := IntOp.cmpi_sge.1 h0
  have h1 := IntOp.cmpi_slt.1 h1
  have e0 : (0#32 : BitVec 32).toInt = 0 := by decide
  have e1 : (100000#32 : BitVec 32).toInt = 100000 := by decide
  rw [e0] at h0
  rw [e1] at h1
  have e := BitVec.toInt_eq_toNat_cond v
  have := v.isLt
  split at e <;> omega

/-- The magnitude of an extended real is below infinity only of a finite one. -/
theorem finite_of_bit {x : EReal} (h : Ideal.cmp .olt (max x (-x)) ⊤ = 1#1) : x ≠ ⊤ ∧ x ≠ ⊥ := by
  have h' : max x (-x) < ⊤ := by
    refine of_decide_eq_true ?_
    generalize e : decide (max x (-x) < ⊤) = b
    cases b with
    | true => rfl
    | false =>
      have h'' : BitVec.ofBool (decide (max x (-x) < ⊤)) = 1#1 := h
      rw [e] at h''
      exact absurd h'' (by decide)
  constructor
  · rintro rfl
    simp at h'
  · rintro rfl
    simp at h'

theorem infinity_bits : Ideal.ofBits .f32 0x7F800000#32 = ⊤ := by simp [Ideal.ofBits, Ideal.ieee]

/-- The first precondition, read back. -/
theorem labels_of_pre {x : Vec F S32x32x100000 .f32} {l : IVec S32x32 32} {w : Vec F S32x32 .f32}
    (h : Cert.Pre_labels_in_range.fn (F := F) x l w = fun _ => 1#1) (i : S32x32.Idx) : (l i).toNat < 100000 :=
  label_of_bits (Host.reduce_andi_all _ _ _ _ (fun a => a.elim0) (congrFun h fun a => a.elim0) i)

/-- The second precondition, read back: its half about the labels. -/
theorem labels_of_finite_pre {x : Vec F S32x32x100000 .f32} {l : IVec S32x32 32} {w : Vec F S32x32 .f32}
    (h : Cert.Pre_finite_pre_labels_in_range.fn (F := F) x l w = fun _ => 1#1) (i : S32x32.Idx) : (l i).toNat < 100000 :=
  label_of_bits (Host.reduce_andi_all _ _ _ _ (fun a => a.elim0) (IntOp.andi_eq_one.1 (congrFun h fun a => a.elim0)).1 i)

/-- And its half about the scores. -/
theorem finite_of_finite_pre {x : Vec Ideal S32x32x100000 .f32} {l : IVec S32x32 32} {w : Vec Ideal S32x32 .f32}
    (h : Cert.Pre_finite_pre_labels_in_range.fn (F := Ideal) x l w = fun _ => 1#1) (i : S32x32x100000.Idx) :
    (x i : EReal) ≠ ⊤ ∧ (x i : EReal) ≠ ⊥ := by
  have e := Host.reduce_andi_all _ _ _ _ (fun a => a.elim0) (IntOp.andi_eq_one.1 (congrFun h fun a => a.elim0)).2 i
  refine finite_of_bit ?_
  rw [← infinity_bits]
  exact e

/-- The labels as the kernel's device program reads them. -/
theorem mlOf_lt (m : (ℓ : Loc nD τ sig) → Buf (Elt F) ℓ)
    (h : ∀ (d : Dev nD) (i : S32x32.Idx), ((m ((d.tc : Thread nD τ).loc main_arg1) : IVec S32x32 32) i).toNat < 100000) (d : Dev nD) (p : S1024.Idx) :
    (mlOf m d p).toNat < 100000 := by
  rw [mlOf_eq]
  exact h d _

end Cert.Proof.Gather

end
-- ==== Proof.Reference.lean ====
/-
  The reference's value, simplified under the range of the labels: no label wraps around, every label is in bounds, and the
  batched gather reads each row at its label.
-/
module

public import proofs.«01_k».proof.Proof.Labels
public import proofs.«01_k».proof.Proof.Gen.ReferenceIdeal.Run
public import Idealize.ShloMosaic.Lib.Pipeline.Value
public import Idealize.ShloMosaic.Lib.Pointwise.Reshape

@[expose] public section

noncomputable section

namespace Cert.Proof.Gather

open Cert.ReferenceIdeal Cert.ReferenceIdeal.Gen
open Idealize.ShloMosaic
open Idealize.ShloMosaic.ValueIdx

variable {F : FTy → Type} [FloatOps F]

/-! ## The labels -/

/-- The labels with the negative ones wrapped around, as the reference prepares them. -/
def wrapped (l : IVec S1024x1 32) : IVec S1024x1 32 :=
  select (cmpi .slt l (broadcastInDim S1024x1 ![] bcast_S_S1024x1 (constantI S_ 32 0#32)))
    (addi l (broadcastInDim S1024x1 ![] bcast_S_S1024x1 (constantI S_ 32 100000#32))) l

/-- Which positions have their label in bounds. -/
def inBounds (lab : IVec S1024x1x1 32) : IVec S1024x1 1 :=
  Host.reduce IntOp.andi (andi (cmpi .sge lab (broadcastInDim S1024x1x1 ![] bcast_S_S1024x1x1 (constantI S_ 32 0#32)))
    (cmpi .sle lab (broadcastInDim S1024x1x1 ![0, 1, 2] bcast_S1x1x1_S1024x1x1_0_1_2 (broadcastInDim S1x1x1 ![2] bcast_S1_S1x1x1_2 (constantI S1 32 99999#32)))))
    (constantI S_ 1 1#1) reducesTo_S1024x1x1_S1024x1_d2 h_S_

/-- A label is, as a signed word, its natural value. -/
theorem label_toInt {v : BitVec 32} (h : v.toNat < 100000) : v.toInt = v.toNat := by
  have e := BitVec.toInt_eq_toNat_cond v
  split at e <;> omega

theorem wrapped_eq (l : IVec S1024x1 32) (h : ∀ p, (l p).toNat < 100000) : wrapped l = l := by
  funext p
  have hn : ¬ IntOp.cmpi .slt (l p) 0#32 = 1#1 := by
    rw [IntOp.cmpi_slt, label_toInt (h p)]
    have e0 : (0#32 : BitVec 32).toInt = 0 := by decide
    omega
  exact if_neg hn

theorem inBounds_eq (lab : IVec S1024x1x1 32) (h : ∀ p, (lab p).toNat < 100000) (p : S1024x1.Idx) : inBounds lab p = 1#1 := by
  refine Host.reduce_andi_one _ _ _ _ p rfl fun i => IntOp.andi_eq_one.2 ⟨?_, ?_⟩
  · show IntOp.cmpi .sge (lab i) 0#32 = 1#1
    rw [IntOp.cmpi_sge, label_toInt (h i)]
    have e0 : (0#32 : BitVec 32).toInt = 0 := by decide
    omega
  · show IntOp.cmpi .sle (lab i) 99999#32 = 1#1
    rw [IntOp.cmpi_sle, label_toInt (h i)]
    have e0 : (99999#32 : BitVec 32).toInt = 99999 := by decide
    have := h i
    omega

/-- So the reference's fill is never taken. -/
theorem select_inBounds (lab : IVec S1024x1x1 32) (a b : FVec F S1024x1 .f32) (h : ∀ p, (lab p).toNat < 100000) : select (inBounds lab) a b = a :=
  funext fun p => if_pos (inBounds_eq lab h p)

/-! ## The gather -/

/-- The place of the label of position `p`. -/
def labelIx (p : S1024x1.Idx) : S1024x1x1.Idx
  | 0 => ⟨(p 0).val, (p 0).isLt⟩
  | 1 => ⟨(p 1).val, (p 1).isLt⟩
  | 2 => ⟨0, Nat.one_pos⟩
  | ⟨_ + 3, h⟩ => absurd h (Nat.not_lt.2 (Nat.le_add_left _ _))

/-- The place of the score of position `p` with label word `v`, in the matrix with a row per position. -/
def rowIx (p : S1024x1.Idx) (v : BitVec 32) : S1024x100000.Idx
  | 0 => ⟨(p 0).val, (p 0).isLt⟩
  | 1 => ⟨v.toNat % 100000, show v.toNat % 100000 < 100000 from Nat.mod_lt _ (by decide)⟩
  | ⟨_ + 2, h⟩ => absurd h (Nat.not_lt.2 (Nat.le_add_left _ _))

theorem gather_at (x : FVec F S1024x100000 .f32) (lab : IVec S1024x1x1 32) (h : ∀ p, (lab p).toNat < 100000) (p : S1024x1.Idx) :
    Host.gather gather_S1024x100000_S1024x1x1_S1024x1_n_1_0_0_1_2_11 x lab p = x (rowIx p (lab (labelIx p))) := by
  unfold Host.gather
  refine congrArg x (funext fun a => Fin.ext ?_)
  show GatherDims.start _ p lab a + GatherDims.batchCoord _ p a + GatherDims.offCoord _ p a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    refine (dif_pos (List.mem_singleton.mpr rfl)).trans ?_
    rfl
  | ⟨1, _⟩ =>
    rw [GatherDims.batchCoord_eq_zero _ _ _ (fun h => by simp [gather_S1024x100000_S1024x1x1_S1024x1_n_1_0_0_1_2_11] at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hi : ∀ c, gather_S1024x100000_S1024x1x1_S1024x1_n_1_0_0_1_2_11.siIdx p c = labelIx p := by
      intro c
      funext b
      refine Fin.ext ?_
      match b with
      | ⟨0, _⟩ => rfl
      | ⟨1, _⟩ => rfl
      | ⟨2, _⟩ =>
        have hc : c.val < 1 := c.isLt
        show c.val = 0
        omega
    rw [hi, label_toInt (h _)]
    have hv := h (labelIx p)
    show min ((lab (labelIx p)).toNat : ℤ).toNat (100000 - 1) = (lab (labelIx p)).toNat % 100000
    rw [Int.toNat_natCast, Nat.mod_eq_of_lt hv]
    omega

end Cert.Proof.Gather

end
-- ==== Proof.Quotient.lean ====
/-
  The one equation of extended reals the two programs differ by. The kernel negates a sum of products; the reference sums the
  products of the negated factors. With infinite weights these sums may differ, but then the sum of the weights is infinite
  and both quotients are zero.
-/
module

public import Idealize.ShloMosaic.Lib.IdealHost

@[expose] public section

noncomputable section

namespace Cert.Proof.Gather

open Idealize.ShloMosaic

/-- An extended real that is no real number. -/
def Infinite (x : EReal) : Prop := x = ⊤ ∨ x = ⊥

theorem infinite_add_left {x : EReal} (h : Infinite x) (y : EReal) : Infinite (x + y) := by
  rcases h with rfl | rfl
  · induction y using EReal.rec with
    | bot => exact Or.inr (EReal.add_bot ⊤)
    | coe r => exact Or.inl (EReal.top_add_coe r)
    | top => exact Or.inl EReal.top_add_top
  · exact Or.inr (EReal.bot_add y)

/-- A finite sum with an infinite summand is infinite. -/
theorem infinite_sum {ι : Type} [Fintype ι] (f : ι → EReal) (i : ι) (h : Infinite (f i)) : Infinite (∑ j, f j) := by
  classical
  rw [← Finset.add_sum_erase Finset.univ f (Finset.mem_univ i)]
  exact infinite_add_left h _

/-- Anything divided by an infinite number is zero. -/
theorem div_infinite (x : EReal) {y : EReal} (h : Infinite y) : Ideal.div x y = 0 := by
  rcases h with rfl | rfl <;> simp [Ideal.div]

/-- A finite sum of reals, read as extended reals, is the sum of their readings. -/
theorem coe_sum_real {ι : Type} [Fintype ι] (a : ι → ℝ) : ((∑ i, a i : ℝ) : EReal) = ∑ i, (a i : EReal) :=
  map_sum (⟨⟨fun x : ℝ => (x : EReal), rfl⟩, fun _ _ => rfl⟩ : ℝ →+ EReal) a Finset.univ

/-- A finite sum of products of reals, negated, is the sum of the products with one factor negated. -/
theorem neg_sum_real {ι : Type} [Fintype ι] (a b : ι → ℝ) :
    (0 : EReal) - ∑ i, (a i : EReal) * (b i : EReal) = 0 + ∑ i, -(a i : EReal) * (b i : EReal) := by
  have e1 : ∑ i, (a i : EReal) * (b i : EReal) = ((∑ i, a i * b i : ℝ) : EReal) := by
    rw [coe_sum_real]; exact Finset.sum_congr rfl fun _ _ => rfl
  have e2 : ∑ i, -(a i : EReal) * (b i : EReal) = ((∑ i, -a i * b i : ℝ) : EReal) := by
    rw [coe_sum_real]; exact Finset.sum_congr rfl fun _ _ => rfl
  rw [e1, e2, zero_sub, zero_add, ← EReal.coe_neg]
  refine congrArg _ ?_
  rw [← Finset.sum_neg_distrib]
  exact Finset.sum_congr rfl fun _ _ => (neg_mul _ _).symm

/-- The two quotients agree when the factors are finite. -/
theorem quotient_eq {ι : Type} [Fintype ι] (g w : ι → EReal) (hg : ∀ i, g i ≠ ⊤ ∧ g i ≠ ⊥) :
    Ideal.div (0 - ∑ i, g i * w i) (∑ i, w i) = Ideal.div (0 + ∑ i, -g i * w i) (0 + ∑ i, w i) := by
  rw [zero_add (∑ i, w i)]
  by_cases h : ∃ i, Infinite (w i)
  · obtain ⟨i, hi⟩ := h
    rw [div_infinite _ (infinite_sum w i hi), div_infinite _ (infinite_sum w i hi)]
  · have hw : ∀ i, w i ≠ ⊤ ∧ w i ≠ ⊥ := fun i => ⟨fun e => h ⟨i, Or.inl e⟩, fun e => h ⟨i, Or.inr e⟩⟩
    have eg : g = fun i => ((g i).toReal : EReal) := funext fun i => (EReal.coe_toReal (hg i).1 (hg i).2).symm
    have ew : w = fun i => ((w i).toReal : EReal) := funext fun i => (EReal.coe_toReal (hw i).1 (hw i).2).symm
    rw [eg, ew]
    exact congrArg (fun x => Ideal.div x _) (neg_sum_real _ _)

end Cert.Proof.Gather

end
-- ==== Proof.Equal.lean ====
/-
  The two programs' values are one. Both gather, at each of the 32 × 32 positions, the score the position's label names, and
  both reduce over every position, so each sum is taken over the positions whatever shape the program gave them.
-/
module

public import proofs.«01_k».proof.Proof.Reference
public import proofs.«01_k».proof.Proof.Quotient

@[expose] public section

noncomputable section

namespace Cert.Proof.Gather

open Idealize.ShloMosaic
open Idealize.ShloMosaic.ValueIdx
open Idealize.ShloMosaic.TcCoe

variable {F : FTy → Type} [FloatOps F]

/-! ## The gathered scores -/

/-- The place of the score that the word `v` names at the position `i`. -/
def placeIx (i : KernelIdeal.S32x32.Idx) (v : BitVec 32) : KernelIdeal.S32x32x100000.Idx
  | 0 => ⟨(i 0).val, (i 0).isLt⟩
  | 1 => ⟨(i 1).val, (i 1).isLt⟩
  | 2 => ⟨v.toNat % 100000, show v.toNat % 100000 < 100000 from Nat.mod_lt _ (by decide)⟩
  | ⟨_ + 3, h⟩ => absurd h (Nat.not_lt.2 (Nat.le_add_left _ _))

/-- The score each position's label names. -/
def pick (x : Vec F KernelIdeal.S32x32x100000 .f32) (l : IVec KernelIdeal.S32x32 32) : Vec F KernelIdeal.S32x32 .f32 :=
  fun i => x (placeIx i (l i))

/-- What the SparseCore call gathers is those scores in one row. -/
theorem gath_pick (x : Vec F KernelIdeal.S32x32x100000 .f32) (l : IVec KernelIdeal.S32x32 32) :
    gath (F := F) (shapeCast KernelIdeal.S128x8x100000 x KernelIdeal.Gen.shapeCasts_S32x32x100000_S128x8x100000)
        (shapeCast KernelIdeal.S1024 l KernelIdeal.Gen.shapeCasts_S32x32_S1024)
      = shapeCast KernelIdeal.S1024 (pick x l) KernelIdeal.Gen.shapeCasts_S32x32_S1024 := by
  funext p
  refine shapeCast_apply x _ _ (placeIx (Shape.reshapeEquiv KernelIdeal.Gen.shapeCasts_S32x32_S1024 p) _) ?_
  have hp := Shape.rowMajor_reshapeEquiv KernelIdeal.Gen.shapeCasts_S32x32_S1024 p
  rw [Shape.rowMajor_val_one, Shape.rowMajor_val_two] at hp
  rw [Shape.rowMajor_val_three, Shape.rowMajor_val_three]
  generalize hi : Shape.reshapeEquiv KernelIdeal.Gen.shapeCasts_S32x32_S1024 p = i at hp ⊢
  have hp' : (i 0).val * 32 + (i 1).val = (p 0).val := hp
  show ((i 0).val * 32 + (i 1).val) * 100000 + _ = ((p 0).val / 8 * 8 + (p 0).val % 8) * 100000 + _
  rw [hp', Nat.div_add_mod', ← hi]
  rfl

/-- What the reference gathers is those scores in one column. -/
theorem gather_pick (x : Vec F KernelIdeal.S32x32x100000 .f32) (l : IVec KernelIdeal.S32x32 32) (h : ∀ i, (l i).toNat < 100000) :
    Host.gather ReferenceIdeal.gather_S1024x100000_S1024x1x1_S1024x1_n_1_0_0_1_2_11
        (shapeCast ReferenceIdeal.S1024x100000 x ReferenceIdeal.Gen.shapeCasts_S32x32x100000_S1024x100000)
        (shapeCast ReferenceIdeal.S1024x1x1 (shapeCast ReferenceIdeal.S1024x1 l ReferenceIdeal.Gen.shapeCasts_S32x32_S1024x1) ReferenceIdeal.Gen.shapeCasts_S1024x1_S1024x1x1)
      = shapeCast ReferenceIdeal.S1024x1 (pick x l) ReferenceIdeal.Gen.shapeCasts_S32x32_S1024x1 := by
  funext p
  rw [gather_at (F := F) _ (shapeCast ReferenceIdeal.S1024x1x1 (shapeCast ReferenceIdeal.S1024x1 l ReferenceIdeal.Gen.shapeCasts_S32x32_S1024x1) ReferenceIdeal.Gen.shapeCasts_S1024x1_S1024x1x1)
    (fun q => h (Shape.reshapeEquiv _ (Shape.reshapeEquiv _ q))) p]
  have hl : shapeCast ReferenceIdeal.S1024x1x1 (shapeCast ReferenceIdeal.S1024x1 l ReferenceIdeal.Gen.shapeCasts_S32x32_S1024x1)
      ReferenceIdeal.Gen.shapeCasts_S1024x1_S1024x1x1 (labelIx p) = l (Shape.reshapeEquiv ReferenceIdeal.Gen.shapeCasts_S32x32_S1024x1 p) := by
    refine shapeCast_apply _ _ _ p ?_
    rw [Shape.rowMajor_val_two, Shape.rowMajor_val_three]
    show (p 0).val * 1 + (p 1).val = ((p 0).val * 1 + (p 1).val) * 1 + 0
    omega
  rw [hl]
  refine shapeCast_apply x _ _ (placeIx (Shape.reshapeEquiv ReferenceIdeal.Gen.shapeCasts_S32x32_S1024x1 p) _) ?_
  have hp := Shape.rowMajor_reshapeEquiv ReferenceIdeal.Gen.shapeCasts_S32x32_S1024x1 p
  rw [Shape.rowMajor_val_two, Shape.rowMajor_val_two] at hp
  rw [Shape.rowMajor_val_three, Shape.rowMajor_val_two]
  generalize Shape.reshapeEquiv ReferenceIdeal.Gen.shapeCasts_S32x32_S1024x1 p = i at hp
  have hp1 : (p 1).val < 1 := (p 1).isLt
  have hp' : (i 0).val * 32 + (i 1).val = (p 0).val * 1 + (p 1).val := hp
  show ((i 0).val * 32 + (i 1).val) * 100000 + _ = (p 0).val * 100000 + _
  rw [show (i 0).val * 32 + (i 1).val = (p 0).val by omega]
  rfl

/-! ## The sums -/

/-- A sum over a reshaped array is the sum over the array. -/
theorem sum_shapeCast {s t : Shape} (y : s.Idx → EReal) (h : s.ShapeCasts t) : ∑ j, shapeCast t y h j = ∑ i, y i :=
  Equiv.sum_comp (Shape.reshapeEquiv h) y

/-- The quotient both programs compute, over the positions: the kernel's sign outside the sum. -/
def loss (g w : KernelIdeal.S32x32.Idx → EReal) : EReal := Ideal.div (0 - ∑ i, g i * w i) (∑ i, w i)

theorem pay_at (a b : Vec Ideal KernelIdeal.S8x128 .f32) (j : KernelIdeal.S1x1.Idx) :
    KernelIdeal.Gen.k1_pay1 (F := Ideal) a b j = Ideal.div (0 - ∑ i, (a i * b i : EReal)) (∑ i, (b i : EReal)) := by
  have hone : ∀ b : Fin KernelIdeal.S1.rank, KernelIdeal.S1.size b = 1 := by decide
  have hs : ∀ v : FVec Ideal KernelIdeal.S8x128 .f32,
      multiReduction (F := Ideal) .add [1, 2] KernelIdeal.S1 (shapeCast KernelIdeal.S1x8x128 v KernelIdeal.Gen.shapeCasts_S8x128_S1x8x128) 0x00000000#32
        KernelIdeal.Gen.reduces_S1x8x128_S1 (.inl rfl) rfl = fun _ => ∑ i, (v i : EReal) := fun v => funext fun k =>
    (Ideal.multiReduction_add_total _ _ _ hone _ _ k).trans (sum_shapeCast v _)
  unfold KernelIdeal.Gen.k1_pay1
  simp only [hs, shapeCast_self]
  show Ideal.ofBits .f32 0x00000000#32 + Ideal.div (Ideal.ofBits .f32 0x00000000#32 - _) _ = _
  rw [Ideal.ofBits_zero_f32, zero_add]
  rfl

/-- The kernel's value. -/
theorem kernelValue_eq (x : Vec Ideal KernelIdeal.S32x32x100000 .f32) (l : IVec KernelIdeal.S32x32 32) (w : Vec Ideal KernelIdeal.S32x32 .f32) :
    kernelValue (F := Ideal) x l w = fun _ => loss (pick x l) w := by
  funext j
  unfold kernelValue loss
  refine (pay_at _ _ _).trans ?_
  rw [gath_pick, shapeCast_comp, sum_shapeCast]
  exact congrArg (fun s => Ideal.div (0 - s) _) (sum_shapeCast (fun i => (pick x l i * w i : EReal)) _)

/-- The reference's value. -/
def referenceValue (x : Vec F KernelIdeal.S32x32x100000 .f32) (l : IVec KernelIdeal.S32x32 32) (w : Vec F KernelIdeal.S32x32 .f32) :
    Vec F ReferenceIdeal.S_ .f32 :=
  let lab := shapeCast ReferenceIdeal.S1024x1x1 (wrapped (shapeCast ReferenceIdeal.S1024x1 l ReferenceIdeal.Gen.shapeCasts_S32x32_S1024x1)) ReferenceIdeal.Gen.shapeCasts_S1024x1_S1024x1x1
  let wcol := shapeCast ReferenceIdeal.S1024x1 w ReferenceIdeal.Gen.shapeCasts_S32x32_S1024x1
  Host.divf
    (Host.reduceAdd (mulf (Host.negf (select (inBounds lab)
        (Host.gather ReferenceIdeal.gather_S1024x100000_S1024x1x1_S1024x1_n_1_0_0_1_2_11 (shapeCast ReferenceIdeal.S1024x100000 x ReferenceIdeal.Gen.shapeCasts_S32x32x100000_S1024x100000) lab)
        (broadcastInDim ReferenceIdeal.S1024x1 ![] ReferenceIdeal.Gen.bcast_S_S1024x1 (constant ReferenceIdeal.S_ .f32 0x7FC00000#32)))) wcol)
      (constant ReferenceIdeal.S_ .f32 0x00000000#32) ReferenceIdeal.Gen.reducesTo_S1024x1_S_d0_1 ReferenceIdeal.Gen.h_S_)
    (Host.reduceAdd wcol (constant ReferenceIdeal.S_ .f32 0x00000000#32) ReferenceIdeal.Gen.reducesTo_S1024x1_S_d0_1 ReferenceIdeal.Gen.h_S_)

theorem hostSum_at (y : FVec Ideal KernelIdeal.S32x32 .f32) (j : ReferenceIdeal.S_.Idx) :
    Host.reduceAdd (F := Ideal) (shapeCast ReferenceIdeal.S1024x1 y ReferenceIdeal.Gen.shapeCasts_S32x32_S1024x1) (constant ReferenceIdeal.S_ .f32 0x00000000#32)
      ReferenceIdeal.Gen.reducesTo_S1024x1_S_d0_1 ReferenceIdeal.Gen.h_S_ j = 0 + ∑ i, (y i : EReal) := by
  rw [hostReduceAdd_apply, Ideal.hostReduceAdd_total _ (fun b => b.elim0), sum_shapeCast]
  exact congrArg (fun z : EReal => z + _) Ideal.ofBits_zero_f32

theorem referenceValue_eq (x : Vec Ideal KernelIdeal.S32x32x100000 .f32) (l : IVec KernelIdeal.S32x32 32) (w : Vec Ideal KernelIdeal.S32x32 .f32)
    (h : ∀ i, (l i).toNat < 100000) :
    referenceValue (F := Ideal) x l w = fun _ => Ideal.div (0 + ∑ i, -(pick x l i : EReal) * (w i : EReal)) (0 + ∑ i, (w i : EReal)) := by
  funext j
  unfold referenceValue
  rw [wrapped_eq (shapeCast ReferenceIdeal.S1024x1 l ReferenceIdeal.Gen.shapeCasts_S32x32_S1024x1) fun p => h (Shape.reshapeEquiv ReferenceIdeal.Gen.shapeCasts_S32x32_S1024x1 p), gather_pick x l h]
  rw [select_inBounds (F := Ideal) (shapeCast ReferenceIdeal.S1024x1x1 (shapeCast ReferenceIdeal.S1024x1 l ReferenceIdeal.Gen.shapeCasts_S32x32_S1024x1) ReferenceIdeal.Gen.shapeCasts_S1024x1_S1024x1x1)
    _ _ fun p => h (Shape.reshapeEquiv _ (Shape.reshapeEquiv _ p))]
  rw [hostDivf_apply, hostSum_at w j]
  exact congrArg (fun s => Ideal.div s _) (hostSum_at (fun i => -(pick x l i : EReal) * (w i : EReal)) j)

/-- With labels in range and finite scores the two values are equal. -/
theorem values_eq (x : Vec Ideal KernelIdeal.S32x32x100000 .f32) (l : IVec KernelIdeal.S32x32 32) (w : Vec Ideal KernelIdeal.S32x32 .f32)
    (h : ∀ i, (l i).toNat < 100000) (hx : ∀ i, (x i : EReal) ≠ ⊤ ∧ (x i : EReal) ≠ ⊥) :
    referenceValue (F := Ideal) x l w = kernelValue (F := Ideal) x l w := by
  rw [referenceValue_eq x l w h, kernelValue_eq x l w]
  exact funext fun _ => (quotient_eq _ _ fun i => hx _).symm

end Cert.Proof.Gather

end
-- ==== Proof.lean ====
/-
  The claim, assembled. Its statements rest on three runs: the kernel's at the ideal values, which ends with the
  arguments unchanged, every semaphore at zero and the result `kernelValue` of the arguments (Proof/Final.lean); the printed
  kernel's, whose bodies are the ideal kernel's own (Proof/Same.lean); and the reference's. The preconditions are read back
  in Proof/Labels.lean, and Proof/Equal.lean proves the two results equal under the second of them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_labels_in_range
public import proofs.«01_k».proof.Proof.Gen.Pre_finite_pre_labels_in_range
public import proofs.«01_k».proof.Proof.Gen.ReferenceIdeal.Run
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- Some extended real exists, so every element type of the ideal values has an inhabitant. -/
theorem ideal_nonempty (e : EltTy) : Nonempty (Elt Ideal e) := by
  cases e <;> first | exact ⟨(0 : EReal)⟩ | exact ⟨BitVec.ofNat _ 0⟩

/-- The kernel's frame at the ideal values, from labels in range. -/
theorem kernel_frame (m : (ℓ : Loc KernelIdeal.nD KernelIdeal.τ KernelIdeal.sig) → Buf (Elt Ideal) ℓ) (g : Dev KernelIdeal.nD → PrngReg)
    (h : ∀ (d : Dev KernelIdeal.nD) (i : KernelIdeal.S32x32.Idx),
      ((m ((d.tc : Thread KernelIdeal.nD KernelIdeal.τ).loc KernelIdeal.main_arg1) : IVec KernelIdeal.S32x32 32) i).toNat < 100000) :
    θ_run (KernelIdeal.defs (F := Ideal)) (KernelIdeal.threads (F := Ideal)) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
  haveI := ideal_nonempty
  (θ_run (KernelIdeal.defs (F := Ideal)) _ _).mono (fun _ h => ⟨fun c => (h.1 c).2, h.2⟩)
    (Gather.run_main (F := Ideal) m g (Gather.mlOf_lt m h))

/-- The reference's frame: it holds of every memory, and the reference has no semaphore. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run (ReferenceIdeal.defs (F := Ideal)) _ _).mono (fun r h => ⟨fun c => (h c).2, sem_eq_zero_of_no_sems (by decide) r.2⟩)
    (ReferenceIdeal.Value.run (F := Ideal) m g)

/-- The kernel's run with its value, and the reference's with the same one. -/
theorem values_agree : Cert.algebraic_KernelIdeal_ReferenceIdeal_pre_finite_pre_labels_in_range := by
  intro m g m' g' hpre hargs
  have hl := fun c => Gather.labels_of_finite_pre (F := Ideal) (hpre c)
  have hx := fun c => Gather.finite_of_finite_pre (hpre c)
  haveI := ideal_nonempty
  refine ⟨fun c => Gather.kernelValue (F := Ideal) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2)),
    (θ_run (KernelIdeal.defs (F := Ideal)) _ _).mono (fun _ h => h.1) (Gather.run_main (F := Ideal) m g (Gather.mlOf_lt m hl)),
    (θ_run (ReferenceIdeal.defs (F := Ideal)) _ _).mono (fun r h c => ⟨(h c).1.trans ?_, (h c).2⟩) (ReferenceIdeal.Value.run (F := Ideal) m' g')⟩
  obtain ⟨e0, e1, e2⟩ := hargs c
  rw [e0, e1, e2]
  exact Gather.values_eq _ _ _ (hl c) (hx c)

theorem claim : Cert.Claim :=
  ⟨Cert.Kernel.Gen.facts, Cert.KernelIdeal.Gen.facts, Cert.ReferenceIdeal.Gen.facts, Cert.Pre_labels_in_range.Gen.facts,
    Cert.Pre_finite_pre_labels_in_range.Gen.facts,
    fun m g h => Gather.run_printed (F := Bits) m g (Gather.mlOf_lt (F := Bits) m fun c => Gather.labels_of_pre (F := Bits) (h c)),
    fun m g h => kernel_frame m g fun c => Gather.labels_of_pre (F := Ideal) (h c),
    fun m g h => kernel_frame m g fun c => Gather.labels_of_finite_pre (F := Ideal) (h c),
    fun m g _ => reference_frame m g,
    fun m g _ => reference_frame m g,
    trivial,
    values_agree⟩

end Cert.Proof

end
